-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "softcap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32768x4096 : Shape := ⟨3, ![2, 32768, 4096]⟩
abbrev S16 : Shape := ⟨1, ![16]⟩
abbrev S2x32768x512 : Shape := ⟨3, ![2, 32768, 512]⟩
abbrev S2 : Shape := ⟨1, ![2]⟩
abbrev S1x128x2048 : Shape := ⟨3, ![1, 128, 2048]⟩
abbrev S1x32768x256 : Shape := ⟨3, ![1, 32768, 256]⟩
abbrev S1024x256 : Shape := ⟨2, ![1024, 256]⟩
abbrev S1024x128 : Shape := ⟨2, ![1024, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩
abbrev S128x1 : Shape := ⟨2, ![128, 1]⟩

abbrev nBuf : Space → Nat
  | .hbm => 7
  | .vmem => 12
  | .smem => 3
  | _ => 0

abbrev bufTy : (tb : Table) → Fin (tcTables nBuf tb) → BufTy
  | .hbm, ⟨0, _⟩ => ⟨S2x32768x4096, .fp8e4m3⟩
  | .hbm, ⟨1, _⟩ => ⟨S16, .f32⟩
  | .hbm, ⟨2, _⟩ => ⟨S2x32768x512, .fp8e4m3⟩
  | .hbm, ⟨3, _⟩ => ⟨S2, .f32⟩
  | .hbm, ⟨4, _⟩ => ⟨S2x32768x512, .fp8e4m3⟩
  | .hbm, ⟨5, _⟩ => ⟨S2, .f32⟩
  | .hbm, ⟨6, _⟩ => ⟨S2x32768x4096, .bf16⟩
  | .local _ .vmem, ⟨0, _⟩ => ⟨S1x128x2048, .fp8e4m3⟩
  | .local _ .vmem, ⟨1, _⟩ => ⟨S1x128x2048, .fp8e4m3⟩
  | .local _ .vmem, ⟨2, _⟩ => ⟨S1x32768x256, .fp8e4m3⟩
  | .local _ .vmem, ⟨3, _⟩ => ⟨S1x32768x256, .fp8e4m3⟩
  | .local _ .vmem, ⟨4, _⟩ => ⟨S1x32768x256, .fp8e4m3⟩
  | .local _ .vmem, ⟨5, _⟩ => ⟨S1x32768x256, .fp8e4m3⟩
  | .local _ .vmem, ⟨6, _⟩ => ⟨S1x128x2048, .bf16⟩
  | .local _ .vmem, ⟨7, _⟩ => ⟨S1x128x2048, .bf16⟩
  | .local _ .vmem, ⟨8, _⟩ => ⟨S1024x256, .fp8e4m3⟩
  | .local _ .vmem, ⟨9, _⟩ => ⟨S1024x128, .f32⟩
  | .local _ .vmem, ⟨10, _⟩ => ⟨S1024x128, .f32⟩
  | .local _ .vmem, ⟨11, _⟩ => ⟨S1024x256, .f32⟩
  | .local _ .smem, ⟨0, _⟩ => ⟨S16, .f32⟩
  | .local _ .smem, ⟨1, _⟩ => ⟨S2, .f32⟩
  | .local _ .smem, ⟨2, _⟩ => ⟨S2, .f32⟩
  | _, _ => ⟨S2x32768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 2, 256], ![false, false, false]⟩

def k0_off1 (i : grid0.Coords) (c0_i32 : BitVec 32) : Fin 1 → Nat :=
  let arg1 : BitVec 32 := BitVec.ofNat 32 (i 1).val
  let c8_i32 : BitVec 32 := 8#32
  let v0 : BitVec 32 := Scalar.muli arg1 c8_i32
  let v1 : BitVec 32 := Scalar.addi v0 c0_i32
  let v2 : Index := Scalar.indexCast v1
  ![v2.toNat]
def k0_off2 (i : grid0.Coords) : Fin 1 → Nat :=
  let arg1 : BitVec 32 := BitVec.ofNat 32 (i 1).val
  let v4 : Index := Scalar.indexCast arg1
  ![v4.toNat]
@[reducible] def k0_t1_loop (i : grid0.Coords) : Scf.Loop 32 :=
  let c0_i32_56 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let v140 : BitVec 32 := Scalar.subi v121 c0_i32_56
  let c1_i32_57 : BitVec 32 := 1#32
  let v142 : BitVec 32 := Scalar.divsi v140 c1_i32_57
  let v143 : BitVec 32 := Scalar.muli v142 c1_i32_57
  let v144 : BitVec 32 := Scalar.addi c0_i32_56 v143
  let c1_i32_58 : BitVec 32 := 1#32
  ⟨c0_i32_56, v144, c1_i32_58⟩
def k0_mult1 (i : grid0.Coords) (k0_t1 : Fin (k0_t1_loop i).trips) : BitVec 32 :=
  let c0_i32_56 : BitVec 32 := 0#32
  let c1_i32_58 : BitVec 32 := 1#32
  let arg14 : BitVec 32 := Scf.iv c0_i32_56 c1_i32_58 k0_t1
  let c256_i32_315 : BitVec 32 := 256#32
  let v726 : BitVec 32 := Scalar.muli arg14 c256_i32_315
  v726
def k0_off3 (i : grid0.Coords) (k0_t1 : Fin (k0_t1_loop i).trips) : Fin 3 → Nat :=
  let c0_316 : Index := 0#32
  let c0_i32_56 : BitVec 32 := 0#32
  let c1_i32_58 : BitVec 32 := 1#32
  let arg14 : BitVec 32 := Scf.iv c0_i32_56 c1_i32_58 k0_t1
  let c256_i32_315 : BitVec 32 := 256#32
  let v726 : BitVec 32 := Scalar.muli arg14 c256_i32_315
  let v727 : BitVec 32 := v726
  let v728 : Index := Scalar.indexCast v727
  let c0_317 : Index := 0#32
  ![0, v728.toNat, 0]
@[reducible] def k0_t2_loop (i : grid0.Coords) : Scf.Loop 32 :=
  let c0_i32_56 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let v140 : BitVec 32 := Scalar.subi v121 c0_i32_56
  let c1_i32_57 : BitVec 32 := 1#32
  let v142 : BitVec 32 := Scalar.divsi v140 c1_i32_57
  let v143 : BitVec 32 := Scalar.muli v142 c1_i32_57
  let v144 : BitVec 32 := Scalar.addi c0_i32_56 v143
  let v141 : BitVec 32 := Scalar.addi c0_i32_56 v140
  let c1_i32_59 : BitVec 32 := 1#32
  ⟨v144, v141, c1_i32_59⟩
def k0_mult2 (i : grid0.Coords) (k0_t2 : Fin (k0_t2_loop i).trips) : BitVec 32 :=
  let c0_i32_56 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let v140 : BitVec 32 := Scalar.subi v121 c0_i32_56
  let c1_i32_57 : BitVec 32 := 1#32
  let v142 : BitVec 32 := Scalar.divsi v140 c1_i32_57
  let v143 : BitVec 32 := Scalar.muli v142 c1_i32_57
  let v144 : BitVec 32 := Scalar.addi c0_i32_56 v143
  let c1_i32_59 : BitVec 32 := 1#32
  let arg14 : BitVec 32 := Scf.iv v144 c1_i32_59 k0_t2
  let c256_i32_315 : BitVec 32 := 256#32
  let v726 : BitVec 32 := Scalar.muli arg14 c256_i32_315
  v726
def k0_off4 (i : grid0.Coords) (k0_t2 : Fin (k0_t2_loop i).trips) : Fin 3 → Nat :=
  let c0_316 : Index := 0#32
  let c0_i32_56 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let v140 : BitVec 32 := Scalar.subi v121 c0_i32_56
  let c1_i32_57 : BitVec 32 := 1#32
  let v142 : BitVec 32 := Scalar.divsi v140 c1_i32_57
  let v143 : BitVec 32 := Scalar.muli v142 c1_i32_57
  let v144 : BitVec 32 := Scalar.addi c0_i32_56 v143
  let c1_i32_59 : BitVec 32 := 1#32
  let arg14 : BitVec 32 := Scf.iv v144 c1_i32_59 k0_t2
  let c256_i32_315 : BitVec 32 := 256#32
  let v726 : BitVec 32 := Scalar.muli arg14 c256_i32_315
  let v727 : BitVec 32 := v726
  let v728 : Index := Scalar.indexCast v727
  let c0_317 : Index := 0#32
  ![0, v728.toNat, 0]
def k0_mult3 (i : grid0.Coords) : BitVec 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c256_i32_60 : BitVec 32 := 256#32
  let v145 : BitVec 32 := Scalar.muli v121 c256_i32_60
  v145
def k0_off5 (i : grid0.Coords) : Fin 3 → Nat :=
  let c0_61 : Index := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c256_i32_60 : BitVec 32 := 256#32
  let v145 : BitVec 32 := Scalar.muli v121 c256_i32_60
  let v146 : BitVec 32 := v145
  let v147 : Index := Scalar.indexCast v146
  let c0_62 : Index := 0#32
  ![0, v147.toNat, 0]
@[reducible] def k0_t3_loop (i : grid0.Coords) : Scf.Loop 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_137 : BitVec 32 := 1#32
  ⟨c0_i32_135, v322, c1_i32_137⟩
def k0_mult4 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_315 : BitVec 32 := 4#32
  let v726 : BitVec 32 := Scalar.muli arg14 c4_i32_315
  let c256_i32_316 : BitVec 32 := 256#32
  let v727 : BitVec 32 := Scalar.muli v726 c256_i32_316
  v727
def k0_off6 (i : grid0.Coords) (k0_t3 : Fin (k0_t3_loop i).trips) : Fin 3 → Nat :=
  let c0_317 : Index := 0#32
  let c0_i32_135 : BitVec 32 := 0#32
  let c1_i32_137 : BitVec 32 := 1#32
  let arg14 : BitVec 32 := Scf.iv c0_i32_135 c1_i32_137 k0_t3
  let c4_i32_315 : BitVec 32 := 4#32
  let v726 : BitVec 32 := Scalar.muli arg14 c4_i32_315
  let c256_i32_316 : BitVec 32 := 256#32
  let v727 : BitVec 32 := Scalar.muli v726 c256_i32_316
  let v728 : BitVec 32 := v727
  let v729 : Index := Scalar.indexCast v728
  let c0_318 : Index := 0#32
  ![0, v729.toNat, 0]
def k0_mult5 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_315 : BitVec 32 := 4#32
  let v726 : BitVec 32 := Scalar.muli arg14 c4_i32_315
  let c256_i32_418 : BitVec 32 := 256#32
  let v1007 : BitVec 32 := Scalar.muli v726 c256_i32_418
  v1007
def k0_mult6 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_422 : BitVec 32 := 4#32
  let v1013 : BitVec 32 := Scalar.muli arg14 c4_i32_422
  let c1_i32_423 : BitVec 32 := 1#32
  let v1014 : BitVec 32 := Scalar.addi v1013 c1_i32_423
  let c256_i32_424 : BitVec 32 := 256#32
  let v1015 : BitVec 32 := Scalar.muli v1014 c256_i32_424
  v1015
def k0_off7 (i : grid0.Coords) (k0_t3 : Fin (k0_t3_loop i).trips) (c1_i32_423 : BitVec 32) : Fin 3 → Nat :=
  let c0_425 : Index := 0#32
  let c0_i32_135 : BitVec 32 := 0#32
  let c1_i32_137 : BitVec 32 := 1#32
  let arg14 : BitVec 32 := Scf.iv c0_i32_135 c1_i32_137 k0_t3
  let c4_i32_422 : BitVec 32 := 4#32
  let v1013 : BitVec 32 := Scalar.muli arg14 c4_i32_422
  let v1014 : BitVec 32 := Scalar.addi v1013 c1_i32_423
  let c256_i32_424 : BitVec 32 := 256#32
  let v1015 : BitVec 32 := Scalar.muli v1014 c256_i32_424
  let v1016 : BitVec 32 := v1015
  let v1017 : Index := Scalar.indexCast v1016
  let c0_426 : Index := 0#32
  ![0, v1017.toNat, 0]
def k0_mult7 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_422 : BitVec 32 := 4#32
  let v1013 : BitVec 32 := Scalar.muli arg14 c4_i32_422
  let c1_i32_423 : BitVec 32 := 1#32
  let v1014 : BitVec 32 := Scalar.addi v1013 c1_i32_423
  let c256_i32_526 : BitVec 32 := 256#32
  let v1295 : BitVec 32 := Scalar.muli v1014 c256_i32_526
  v1295
def k0_mult8 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_530 : BitVec 32 := 4#32
  let v1302 : BitVec 32 := Scalar.muli arg14 c4_i32_530
  let c2_i32_531 : BitVec 32 := 2#32
  let v1303 : BitVec 32 := Scalar.addi v1302 c2_i32_531
  let c256_i32_532 : BitVec 32 := 256#32
  let v1304 : BitVec 32 := Scalar.muli v1303 c256_i32_532
  v1304
def k0_mult9 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_530 : BitVec 32 := 4#32
  let v1302 : BitVec 32 := Scalar.muli arg14 c4_i32_530
  let c2_i32_531 : BitVec 32 := 2#32
  let v1303 : BitVec 32 := Scalar.addi v1302 c2_i32_531
  let c256_i32_634 : BitVec 32 := 256#32
  let v1584 : BitVec 32 := Scalar.muli v1303 c256_i32_634
  v1584
def k0_mult10 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_638 : BitVec 32 := 4#32
  let v1591 : BitVec 32 := Scalar.muli arg14 c4_i32_638
  let c3_i32_639 : BitVec 32 := 3#32
  let v1592 : BitVec 32 := Scalar.addi v1591 c3_i32_639
  let c256_i32_640 : BitVec 32 := 256#32
  let v1593 : BitVec 32 := Scalar.muli v1592 c256_i32_640
  v1593
def k0_mult11 (i : grid0.Coords) (k0_t3 : Fin (k0_t3_loop i).trips) : BitVec 32 :=
  let c0_i32_135 : BitVec 32 := 0#32
  let c1_i32_137 : BitVec 32 := 1#32
  let arg14 : BitVec 32 := Scf.iv c0_i32_135 c1_i32_137 k0_t3
  let c4_i32_638 : BitVec 32 := 4#32
  let v1591 : BitVec 32 := Scalar.muli arg14 c4_i32_638
  let c3_i32_639 : BitVec 32 := 3#32
  let v1592 : BitVec 32 := Scalar.addi v1591 c3_i32_639
  let c256_i32_742 : BitVec 32 := 256#32
  let v1873 : BitVec 32 := Scalar.muli v1592 c256_i32_742
  v1873
@[reducible] def k0_t4_loop (i : grid0.Coords) : Scf.Loop 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let v319 : BitVec 32 := Scalar.addi c0_i32_135 v318
  let c1_i32_138 : BitVec 32 := 1#32
  ⟨v322, v319, c1_i32_138⟩
def k0_mult12 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_315 : BitVec 32 := 4#32
  let v726 : BitVec 32 := Scalar.muli arg14 c4_i32_315
  let c256_i32_316 : BitVec 32 := 256#32
  let v727 : BitVec 32 := Scalar.muli v726 c256_i32_316
  v727
def k0_off8 (i : grid0.Coords) (k0_t4 : Fin (k0_t4_loop i).trips) : Fin 3 → Nat :=
  let c0_317 : Index := 0#32
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_315 : BitVec 32 := 4#32
  let v726 : BitVec 32 := Scalar.muli arg14 c4_i32_315
  let c256_i32_316 : BitVec 32 := 256#32
  let v727 : BitVec 32 := Scalar.muli v726 c256_i32_316
  let v728 : BitVec 32 := v727
  let v729 : Index := Scalar.indexCast v728
  let c0_318 : Index := 0#32
  ![0, v729.toNat, 0]
def k0_mult13 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_315 : BitVec 32 := 4#32
  let v726 : BitVec 32 := Scalar.muli arg14 c4_i32_315
  let c256_i32_418 : BitVec 32 := 256#32
  let v1007 : BitVec 32 := Scalar.muli v726 c256_i32_418
  v1007
def k0_mult14 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_422 : BitVec 32 := 4#32
  let v1013 : BitVec 32 := Scalar.muli arg14 c4_i32_422
  let c1_i32_423 : BitVec 32 := 1#32
  let v1014 : BitVec 32 := Scalar.addi v1013 c1_i32_423
  let c256_i32_424 : BitVec 32 := 256#32
  let v1015 : BitVec 32 := Scalar.muli v1014 c256_i32_424
  v1015
def k0_off9 (i : grid0.Coords) (k0_t4 : Fin (k0_t4_loop i).trips) (c1_i32_423 : BitVec 32) : Fin 3 → Nat :=
  let c0_425 : Index := 0#32
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_422 : BitVec 32 := 4#32
  let v1013 : BitVec 32 := Scalar.muli arg14 c4_i32_422
  let v1014 : BitVec 32 := Scalar.addi v1013 c1_i32_423
  let c256_i32_424 : BitVec 32 := 256#32
  let v1015 : BitVec 32 := Scalar.muli v1014 c256_i32_424
  let v1016 : BitVec 32 := v1015
  let v1017 : Index := Scalar.indexCast v1016
  let c0_426 : Index := 0#32
  ![0, v1017.toNat, 0]
def k0_mult15 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_422 : BitVec 32 := 4#32
  let v1013 : BitVec 32 := Scalar.muli arg14 c4_i32_422
  let c1_i32_423 : BitVec 32 := 1#32
  let v1014 : BitVec 32 := Scalar.addi v1013 c1_i32_423
  let c256_i32_526 : BitVec 32 := 256#32
  let v1295 : BitVec 32 := Scalar.muli v1014 c256_i32_526
  v1295
def k0_mult16 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_530 : BitVec 32 := 4#32
  let v1302 : BitVec 32 := Scalar.muli arg14 c4_i32_530
  let c2_i32_531 : BitVec 32 := 2#32
  let v1303 : BitVec 32 := Scalar.addi v1302 c2_i32_531
  let c256_i32_532 : BitVec 32 := 256#32
  let v1304 : BitVec 32 := Scalar.muli v1303 c256_i32_532
  v1304
def k0_mult17 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_530 : BitVec 32 := 4#32
  let v1302 : BitVec 32 := Scalar.muli arg14 c4_i32_530
  let c2_i32_531 : BitVec 32 := 2#32
  let v1303 : BitVec 32 := Scalar.addi v1302 c2_i32_531
  let c256_i32_634 : BitVec 32 := 256#32
  let v1584 : BitVec 32 := Scalar.muli v1303 c256_i32_634
  v1584
def k0_mult18 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_638 : BitVec 32 := 4#32
  let v1591 : BitVec 32 := Scalar.muli arg14 c4_i32_638
  let c3_i32_639 : BitVec 32 := 3#32
  let v1592 : BitVec 32 := Scalar.addi v1591 c3_i32_639
  let c256_i32_640 : BitVec 32 := 256#32
  let v1593 : BitVec 32 := Scalar.muli v1592 c256_i32_640
  v1593
def k0_mult19 (i : grid0.Coords) (k0_t4 : Fin (k0_t4_loop i).trips) : BitVec 32 :=
  let c0_i32_135 : BitVec 32 := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let v318 : BitVec 32 := Scalar.subi v317 c0_i32_135
  let c1_i32_136 : BitVec 32 := 1#32
  let v320 : BitVec 32 := Scalar.divsi v318 c1_i32_136
  let v321 : BitVec 32 := Scalar.muli v320 c1_i32_136
  let v322 : BitVec 32 := Scalar.addi c0_i32_135 v321
  let c1_i32_138 : BitVec 32 := 1#32
  let arg14 : BitVec 32 := Scf.iv v322 c1_i32_138 k0_t4
  let c4_i32_638 : BitVec 32 := 4#32
  let v1591 : BitVec 32 := Scalar.muli arg14 c4_i32_638
  let c3_i32_639 : BitVec 32 := 3#32
  let v1592 : BitVec 32 := Scalar.addi v1591 c3_i32_639
  let c256_i32_742 : BitVec 32 := 256#32
  let v1873 : BitVec 32 := Scalar.muli v1592 c256_i32_742
  v1873
@[reducible] def k0_t5_loop (i : grid0.Coords) : Scf.Loop 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let v324 : BitVec 32 := Scalar.subi v121 v323
  let c1_i32_141 : BitVec 32 := 1#32
  let v326 : BitVec 32 := Scalar.divsi v324 c1_i32_141
  let v327 : BitVec 32 := Scalar.muli v326 c1_i32_141
  let v328 : BitVec 32 := Scalar.addi v323 v327
  let c1_i32_142 : BitVec 32 := 1#32
  ⟨v323, v328, c1_i32_142⟩
def k0_mult20 (i : grid0.Coords) (k0_t5 : Fin (k0_t5_loop i).trips) : BitVec 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let c1_i32_142 : BitVec 32 := 1#32
  let arg14 : BitVec 32 := Scf.iv v323 c1_i32_142 k0_t5
  let c256_i32_317 : BitVec 32 := 256#32
  let v727 : BitVec 32 := Scalar.muli arg14 c256_i32_317
  v727
def k0_off10 (i : grid0.Coords) (k0_t5 : Fin (k0_t5_loop i).trips) : Fin 3 → Nat :=
  let c0_318 : Index := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let c1_i32_142 : BitVec 32 := 1#32
  let arg14 : BitVec 32 := Scf.iv v323 c1_i32_142 k0_t5
  let c256_i32_317 : BitVec 32 := 256#32
  let v727 : BitVec 32 := Scalar.muli arg14 c256_i32_317
  let v728 : BitVec 32 := v727
  let v729 : Index := Scalar.indexCast v728
  let c0_319 : Index := 0#32
  ![0, v729.toNat, 0]
def k0_mult21 (i : grid0.Coords) (k0_t5 : Fin (k0_t5_loop i).trips) : BitVec 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let c1_i32_142 : BitVec 32 := 1#32
  let arg14 : BitVec 32 := Scf.iv v323 c1_i32_142 k0_t5
  let c256_i32_419 : BitVec 32 := 256#32
  let v1007 : BitVec 32 := Scalar.muli arg14 c256_i32_419
  v1007
@[reducible] def k0_t6_loop (i : grid0.Coords) : Scf.Loop 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let v324 : BitVec 32 := Scalar.subi v121 v323
  let c1_i32_141 : BitVec 32 := 1#32
  let v326 : BitVec 32 := Scalar.divsi v324 c1_i32_141
  let v327 : BitVec 32 := Scalar.muli v326 c1_i32_141
  let v328 : BitVec 32 := Scalar.addi v323 v327
  let v325 : BitVec 32 := Scalar.addi v323 v324
  let c1_i32_143 : BitVec 32 := 1#32
  ⟨v328, v325, c1_i32_143⟩
def k0_mult22 (i : grid0.Coords) (k0_t6 : Fin (k0_t6_loop i).trips) : BitVec 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let v324 : BitVec 32 := Scalar.subi v121 v323
  let c1_i32_141 : BitVec 32 := 1#32
  let v326 : BitVec 32 := Scalar.divsi v324 c1_i32_141
  let v327 : BitVec 32 := Scalar.muli v326 c1_i32_141
  let v328 : BitVec 32 := Scalar.addi v323 v327
  let c1_i32_143 : BitVec 32 := 1#32
  let arg14 : BitVec 32 := Scf.iv v328 c1_i32_143 k0_t6
  let c256_i32_317 : BitVec 32 := 256#32
  let v727 : BitVec 32 := Scalar.muli arg14 c256_i32_317
  v727
def k0_off11 (i : grid0.Coords) (k0_t6 : Fin (k0_t6_loop i).trips) : Fin 3 → Nat :=
  let c0_318 : Index := 0#32
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let v324 : BitVec 32 := Scalar.subi v121 v323
  let c1_i32_141 : BitVec 32 := 1#32
  let v326 : BitVec 32 := Scalar.divsi v324 c1_i32_141
  let v327 : BitVec 32 := Scalar.muli v326 c1_i32_141
  let v328 : BitVec 32 := Scalar.addi v323 v327
  let c1_i32_143 : BitVec 32 := 1#32
  let arg14 : BitVec 32 := Scf.iv v328 c1_i32_143 k0_t6
  let c256_i32_317 : BitVec 32 := 256#32
  let v727 : BitVec 32 := Scalar.muli arg14 c256_i32_317
  let v728 : BitVec 32 := v727
  let v729 : Index := Scalar.indexCast v728
  let c0_319 : Index := 0#32
  ![0, v729.toNat, 0]
def k0_mult23 (i : grid0.Coords) (k0_t6 : Fin (k0_t6_loop i).trips) : BitVec 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c0_i32_128 : BitVec 32 := 0#32
  let v302 : BitVec 1 := Scalar.cmpi .sgt v121 c0_i32_128
  let v303 : BitVec 32 := Scalar.extui v302
  let c0_i32_129 : BitVec 32 := 0#32
  let v304 : BitVec 1 := Scalar.cmpi .slt v121 c0_i32_129
  let v305 : BitVec 32 := Scalar.extui v304
  let v306 : BitVec 32 := Scalar.subi v303 v305
  let c4_i32_127 : BitVec 32 := 4#32
  let c0_i32_130 : BitVec 32 := 0#32
  let v307 : BitVec 1 := Scalar.cmpi .sgt c4_i32_127 c0_i32_130
  let v308 : BitVec 32 := Scalar.extui v307
  let c0_i32_131 : BitVec 32 := 0#32
  let v309 : BitVec 1 := Scalar.cmpi .slt c4_i32_127 c0_i32_131
  let v310 : BitVec 32 := Scalar.extui v309
  let v311 : BitVec 32 := Scalar.subi v308 v310
  let v312 : BitVec 1 := Scalar.cmpi .ne v306 v311
  let v313 : BitVec 32 := Scalar.remsi v121 c4_i32_127
  let c0_i32_132 : BitVec 32 := 0#32
  let v314 : BitVec 1 := Scalar.cmpi .ne v313 c0_i32_132
  let v315 : BitVec 1 := Scalar.andi v312 v314
  let v301 : BitVec 32 := Scalar.divsi v121 c4_i32_127
  let c1_i32_133 : BitVec 32 := 1#32
  let v316 : BitVec 32 := Scalar.subi v301 c1_i32_133
  let v317 : BitVec 32 := Scalar.select v315 v316 v301
  let c4_i32_139 : BitVec 32 := 4#32
  let v323 : BitVec 32 := Scalar.muli v317 c4_i32_139
  let v324 : BitVec 32 := Scalar.subi v121 v323
  let c1_i32_141 : BitVec 32 := 1#32
  let v326 : BitVec 32 := Scalar.divsi v324 c1_i32_141
  let v327 : BitVec 32 := Scalar.muli v326 c1_i32_141
  let v328 : BitVec 32 := Scalar.addi v323 v327
  let c1_i32_143 : BitVec 32 := 1#32
  let arg14 : BitVec 32 := Scf.iv v328 c1_i32_143 k0_t6
  let c256_i32_419 : BitVec 32 := 256#32
  let v1007 : BitVec 32 := Scalar.muli arg14 c256_i32_419
  v1007
def k0_mult24 (i : grid0.Coords) : BitVec 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c256_i32_146 : BitVec 32 := 256#32
  let v330 : BitVec 32 := Scalar.muli v121 c256_i32_146
  v330
def k0_mult25 (i : grid0.Coords) : BitVec 32 :=
  let arg2 : BitVec 32 := BitVec.ofNat 32 (i 2).val
  let c128_i32 : BitVec 32 := 128#32
  let v104 : BitVec 32 := Scalar.muli arg2 c128_i32
  let c0_i32_42 : BitVec 32 := 0#32
  let v106 : BitVec 1 := Scalar.cmpi .sgt v104 c0_i32_42
  let v107 : BitVec 32 := Scalar.extui v106
  let c0_i32_43 : BitVec 32 := 0#32
  let v108 : BitVec 1 := Scalar.cmpi .slt v104 c0_i32_43
  let v109 : BitVec 32 := Scalar.extui v108
  let v110 : BitVec 32 := Scalar.subi v107 v109
  let c256_i32 : BitVec 32 := 256#32
  let c0_i32_44 : BitVec 32 := 0#32
  let v111 : BitVec 1 := Scalar.cmpi .sgt c256_i32 c0_i32_44
  let v112 : BitVec 32 := Scalar.extui v111
  let c0_i32_45 : BitVec 32 := 0#32
  let v113 : BitVec 1 := Scalar.cmpi .slt c256_i32 c0_i32_45
  let v114 : BitVec 32 := Scalar.extui v113
  let v115 : BitVec 32 := Scalar.subi v112 v114
  let v116 : BitVec 1 := Scalar.cmpi .ne v110 v115
  let v117 : BitVec 32 := Scalar.remsi v104 c256_i32
  let c0_i32_46 : BitVec 32 := 0#32
  let v118 : BitVec 1 := Scalar.cmpi .ne v117 c0_i32_46
  let v119 : BitVec 1 := Scalar.andi v116 v118
  let v105 : BitVec 32 := Scalar.divsi v104 c256_i32
  let c1_i32_47 : BitVec 32 := 1#32
  let v120 : BitVec 32 := Scalar.subi v105 c1_i32_47
  let v121 : BitVec 32 := Scalar.select v119 v120 v105
  let c256_i32_264 : BitVec 32 := 256#32
  let v642 : BitVec 32 := Scalar.muli v121 c256_i32_264
  v642
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x128x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32768x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x32768x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "softcap_log2e" => some ((50 * (Real.log 2)⁻¹ : ℝ) : EReal)
  | _ => none
-- ==== ReferenceIdeal.lean ====
abbrev S2x32768x4096 : Shape := ⟨3, ![2, 32768, 4096]⟩
abbrev S16 : Shape := ⟨1, ![16]⟩
abbrev S2x32768x512 : Shape := ⟨3, ![2, 32768, 512]⟩
abbrev S2 : Shape := ⟨1, ![2]⟩
abbrev S2x32768x2x8x256 : Shape := ⟨5, ![2, 32768, 2, 8, 256]⟩
abbrev S2x32768x2x256 : Shape := ⟨4, ![2, 32768, 2, 256]⟩
abbrev S2x8 : Shape := ⟨2, ![2, 8]⟩
abbrev S2x1 : Shape := ⟨2, ![2, 1]⟩
abbrev S1x32768 : Shape := ⟨2, ![1, 32768]⟩
abbrev S32768 : Shape := ⟨1, ![32768]⟩
abbrev S2x2x32768x32768x8 : Shape := ⟨5, ![2, 2, 32768, 32768, 8]⟩
abbrev S2x2x8x32768x32768 : Shape := ⟨5, ![2, 2, 8, 32768, 32768]⟩
abbrev S1x2x8x1x1 : Shape := ⟨5, ![1, 2, 8, 1, 1]⟩
abbrev S32768x1 : Shape := ⟨2, ![32768, 1]⟩
abbrev S32768x32768 : Shape := ⟨2, ![32768, 32768]⟩
abbrev S1x1x1x32768x32768 : Shape := ⟨5, ![1, 1, 1, 32768, 32768]⟩
abbrev S2x2x8x32768 : Shape := ⟨4, ![2, 2, 8, 32768]⟩
abbrev S2x2x8x32768x1 : Shape := ⟨5, ![2, 2, 8, 32768, 1]⟩
abbrev S2x2x256x8x32768 : Shape := ⟨5, ![2, 2, 256, 8, 32768]⟩
abbrev S2x32768x2x8 : Shape := ⟨4, ![2, 32768, 2, 8]⟩
abbrev S2x32768x2x8x1 : Shape := ⟨5, ![2, 32768, 2, 8, 1]⟩
abbrev S1x1x2x1x1 : Shape := ⟨5, ![1, 1, 2, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x32768x4096, .fp8e4m3⟩
  | .hbm, ⟨1, _⟩ => ⟨S16, .f32⟩
  | .hbm, ⟨2, _⟩ => ⟨S2x32768x512, .fp8e4m3⟩
  | .hbm, ⟨3, _⟩ => ⟨S2, .f32⟩
  | .hbm, ⟨4, _⟩ => ⟨S2x32768x512, .fp8e4m3⟩
  | .hbm, ⟨5, _⟩ => ⟨S2, .f32⟩
  | .hbm, ⟨6, _⟩ => ⟨S2x32768x4096, .bf16⟩
  | .local _ .vmem, ⟨0, _⟩ => ⟨S2x32768x4096, .fp8e4m3⟩
  | .local _ .vmem, ⟨1, _⟩ => ⟨S16, .f32⟩
  | .local _ .vmem, ⟨2, _⟩ => ⟨S2x32768x512, .fp8e4m3⟩
  | .local _ .vmem, ⟨3, _⟩ => ⟨S2, .f32⟩
  | .local _ .vmem, ⟨4, _⟩ => ⟨S2x32768x512, .fp8e4m3⟩
  | .local _ .vmem, ⟨5, _⟩ => ⟨S2, .f32⟩
  | .local _ .vmem, ⟨6, _⟩ => ⟨S2x32768x4096, .bf16⟩
  | _, _ => ⟨S2x32768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x32768x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32768x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Grid.lean ====
/- The loops' trip counts and the offsets the kernel computes, in closed form over the grid. -/
module

public import proofs.«01_k».proof.Proof.Gen.KernelIdeal.Skeleton
public import Idealize.ShloMosaic.Lib.LoopRemainder

@[expose] public section

set_option maxRecDepth 16384

namespace Cert.KernelIdeal.Slab

open Cert.KernelIdeal Cert.KernelIdeal.Gen Idealize.ShloMosaic

/-- A grid point's last coordinate: which 128 rows of queries. -/
def qi (i : grid0.Coords) : Fin 256 := i 2

/-- A grid point with the given last coordinate. -/
def ofQi (q : Fin 256) : grid0.Coords := fun a => match a with
  | ⟨0, _⟩ => (0 : Fin 2)
  | ⟨1, _⟩ => (0 : Fin 2)
  | ⟨2, _⟩ => q

/-- The chunks before the last one: all their keys are visible to all the rows. -/
def full (i : grid0.Coords) : ℕ := (qi i).val / 2

/-- The pass for the maxima runs once for each chunk before the last. -/
theorem trips1 (i : grid0.Coords) : (k0_t1_loop i).trips = full i := by
  have h : ∀ q : Fin 256, (k0_t1_loop (ofQi q)).trips = q.val / 2 := by decide +kernel
  exact h (qi i)

/-- The remainder of that loop never runs. -/
theorem trips2 (i : grid0.Coords) : (k0_t2_loop i).trips = 0 := by
  have h : ∀ q : Fin 256, (k0_t2_loop (ofQi q)).trips = 0 := by decide +kernel
  exact h (qi i)

/-- The main loop runs once for each four chunks before the last. -/
theorem trips3 (i : grid0.Coords) : (k0_t3_loop i).trips = full i / 4 := by
  have h : ∀ q : Fin 256, (k0_t3_loop (ofQi q)).trips = q.val / 2 / 4 := by decide +kernel
  exact h (qi i)

/-- The remainder of that loop never runs. -/
theorem trips4 (i : grid0.Coords) : (k0_t4_loop i).trips = 0 := by
  have h : ∀ q : Fin 256, (k0_t4_loop (ofQi q)).trips = 0 := by decide +kernel
  exact h (qi i)

/-- The tail loop runs once for each chunk the main loop leaves. -/
theorem trips5 (i : grid0.Coords) : (k0_t5_loop i).trips = full i % 4 := by
  have h : ∀ q : Fin 256, (k0_t5_loop (ofQi q)).trips = q.val / 2 % 4 := by decide +kernel
  exact h (qi i)

/-- The remainder of that loop never runs. -/
theorem trips6 (i : grid0.Coords) : (k0_t6_loop i).trips = 0 := by
  have h : ∀ q : Fin 256, (k0_t6_loop (ofQi q)).trips = 0 := by decide +kernel
  exact h (qi i)

/-- Where chunk `j` of the keys begins. -/
def keyOff (j : ℕ) : Fin 3 → ℕ := ![0, 256 * j, 0]

/-- The pass for the maxima reads the chunks in turn. -/
theorem off3 (i : grid0.Coords) (k : Fin (k0_t1_loop i).trips) : k0_off3 i k = keyOff k.val := by
  have h : ∀ q : Fin 256, ∀ k : Fin (k0_t1_loop (ofQi q)).trips, k0_off3 (ofQi q) k = keyOff k.val := by decide +kernel
  exact h (qi i) k

/-- The last chunk comes after them. -/
theorem off5 (i : grid0.Coords) : k0_off5 i = keyOff (full i) := by
  have h : ∀ q : Fin 256, k0_off5 (ofQi q) = keyOff (q.val / 2) := by decide +kernel
  exact h (qi i)

/-- The main loop reads four chunks a trip. -/
theorem off6 (i : grid0.Coords) (k : Fin (k0_t3_loop i).trips) : k0_off6 i k = keyOff (4 * k.val) := by
  have h : ∀ q : Fin 256, ∀ k : Fin (k0_t3_loop (ofQi q)).trips, k0_off6 (ofQi q) k = keyOff (4 * k.val) := by decide +kernel
  exact h (qi i) k

/-- The second, third and fourth chunk of a trip of the main loop follow the first. -/
theorem off7 (i : grid0.Coords) (k : Fin (k0_t3_loop i).trips) : k0_off7 i k 1#32 = keyOff (4 * k.val + 1) ∧
    k0_off7 i k 2#32 = keyOff (4 * k.val + 2) ∧ k0_off7 i k 3#32 = keyOff (4 * k.val + 3) := by
  have h : ∀ q : Fin 256, ∀ k : Fin (k0_t3_loop (ofQi q)).trips, k0_off7 (ofQi q) k 1#32 = keyOff (4 * k.val + 1) ∧
    k0_off7 (ofQi q) k 2#32 = keyOff (4 * k.val + 2) ∧ k0_off7 (ofQi q) k 3#32 = keyOff (4 * k.val + 3) := by decide +kernel
  exact h (qi i) k

/-- The chunks the main loop leaves over are read one by one. -/
theorem off10 (i : grid0.Coords) (k : Fin (k0_t5_loop i).trips) : k0_off10 i k = keyOff (4 * (full i / 4) + k.val) := by
  have h : ∀ q : Fin 256, ∀ k : Fin (k0_t5_loop (ofQi q)).trips, k0_off10 (ofQi q) k = keyOff (4 * (q.val / 2 / 4) + k.val) := by
    decide +kernel
  exact h (qi i) k

end Cert.KernelIdeal.Slab

end
-- ==== Proof.Slab.lean ====
/- The kernel works on 1024 rows at once: eight slabs of 128 rows, one per head of the group. This module names what
   the kernel does with one slab, whatever slab it is, and what the list of its eight stores leaves in a buffer. -/
module

public import proofs.«01_k».proof.Proof.Gen.KernelIdeal.Skeleton
public import Idealize.ShloMosaic.Lib.Pointwise
public import Idealize.ShloMosaic.Lib.Writes

@[expose] public section

set_option maxRecDepth 16384

noncomputable section

namespace Cert.KernelIdeal.Slab

open Cert.KernelIdeal Cert.KernelIdeal.Gen Idealize.ShloMosaic

variable {F : FTy → Type} [FloatOps F] [Named F]

/-- A tile of 128 rows and 128 keys of the scores, times the scale of its head. -/
def tile (o j : ℕ) (h : S1024x256.Slices ![o, j] S128x128) (c : F .f32) (s : FVec F S1024x256 .f32) : FVec F S128x128 .f32 :=
  mulf (extractStridedSlice S128x128 ![o, j] s h) (broadcast S128x128 c)

/-- The running maximum of a slab after the two tiles of a chunk. -/
def maxOf (m a b : FVec F S128x128 .f32) : FVec F S128x128 .f32 :=
  shapeCast S128x128 (maximumf (maximumf m a) b) shapeCasts_S128x128_S128x128

/-- The probabilities of a tile of scores, before the division by their sum. -/
def prob (x m : FVec F S128x128 .f32) : FVec F S128x128 .f32 :=
  exp2 (subf (mulf (tanh x) (broadcast S128x128 (Named.named κ "softcap_log2e" 0x429044FE#32))) m)

/-- The running sum of a slab after the two tiles of a chunk. -/
def sumOf (l a b : FVec F S128x128 .f32) : FVec F S128x128 .f32 :=
  shapeCast S128x128 (addf (addf l a) b) shapeCasts_S128x128_S128x128

/-- The codes of a tile of probabilities. -/
def code (p : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) p)) bitsLt_fp8e4m3_f32

/-- The codes of a slab: its two tiles side by side. -/
def codes (a b : FVec F S128x128 .f32) : FVec F S128x256 .fp8e4m3 :=
  concatenate S128x256 1 [⟨S128x128, code a⟩, ⟨S128x128, code b⟩] concatenates_S128x128_S128x128_S128x256_d1

/-- The scores of a chunk: the rows of queries against its keys. -/
def scores (kc : Vec F S1x256x256 .fp8e4m3) (q : Vec F S1024x256 .fp8e4m3) : FVec F S1024x256 .f32 :=
  matmul dot_S1024x256_S256x256_S1024x256_1_1_0_0_n_n none q (shapeCast S256x256 kc shapeCasts_S1x256x256_S256x256)
    (constant S1024x256 .f32 0x00000000#32)

/-- The 128 rows of a 1024-row buffer that start at row `o`. -/
def slabRect (o : ℕ) (h : o + 128 ≤ 1024) : Rect S1024x128 :=
  Rect.unit ![o, 0] S128x128.size (by
    intro a
    match a with
    | ⟨0, _⟩ => exact h
    | ⟨1, _⟩ => exact le_of_eq rfl)

/-- The eight stores of a pass over a chunk, last first. -/
def pieces (w : Fin 8 → FVec F S128x128 .f32) : List (View.Piece (Elt F) S1024x128 .f32) :=
  [⟨slabRect 896 (by decide), w 7⟩,
   ⟨slabRect 768 (by decide), w 6⟩,
   ⟨slabRect 640 (by decide), w 5⟩,
   ⟨slabRect 512 (by decide), w 4⟩,
   ⟨slabRect 384 (by decide), w 3⟩,
   ⟨slabRect 256 (by decide), w 2⟩,
   ⟨slabRect 128 (by decide), w 1⟩,
   ⟨slabRect 0 (by decide), w 0⟩]

/-- The first tiles of the eight slabs: keys 0 to 127 of the chunk. -/
def lo (c : Fin 8 → F .f32) (s : FVec F S1024x256 .f32) : Fin 8 → FVec F S128x128 .f32 :=
  ![tile 0 0 slices_S1024x256_o0_0_S128x128 (c 0) s, tile 128 0 slices_S1024x256_o128_0_S128x128 (c 1) s,
    tile 256 0 slices_S1024x256_o256_0_S128x128 (c 2) s, tile 384 0 slices_S1024x256_o384_0_S128x128 (c 3) s,
    tile 512 0 slices_S1024x256_o512_0_S128x128 (c 4) s, tile 640 0 slices_S1024x256_o640_0_S128x128 (c 5) s,
    tile 768 0 slices_S1024x256_o768_0_S128x128 (c 6) s, tile 896 0 slices_S1024x256_o896_0_S128x128 (c 7) s]

/-- The second tiles of the eight slabs: keys 128 to 255 of the chunk. -/
def hi (c : Fin 8 → F .f32) (s : FVec F S1024x256 .f32) : Fin 8 → FVec F S128x128 .f32 :=
  ![tile 0 128 slices_S1024x256_o0_128_S128x128 (c 0) s, tile 128 128 slices_S1024x256_o128_128_S128x128 (c 1) s,
    tile 256 128 slices_S1024x256_o256_128_S128x128 (c 2) s, tile 384 128 slices_S1024x256_o384_128_S128x128 (c 3) s,
    tile 512 128 slices_S1024x256_o512_128_S128x128 (c 4) s, tile 640 128 slices_S1024x256_o640_128_S128x128 (c 5) s,
    tile 768 128 slices_S1024x256_o768_128_S128x128 (c 6) s, tile 896 128 slices_S1024x256_o896_128_S128x128 (c 7) s]

/-- The eight slabs of a buffer, as they are loaded. -/
def loads {sig : RefSig} {κ : Kind} {sp : Space} (v : View sig κ sp S1024x128 .f32) (f : v.ty.Contents (Elt F)) :
    Fin 8 → FVec F S128x128 .f32 :=
  ![v.readAt (Elt F) (slabRect 0 (by decide)).toLoadRect f,
    v.readAt (Elt F) (slabRect 128 (by decide)).toLoadRect f,
    v.readAt (Elt F) (slabRect 256 (by decide)).toLoadRect f,
    v.readAt (Elt F) (slabRect 384 (by decide)).toLoadRect f,
    v.readAt (Elt F) (slabRect 512 (by decide)).toLoadRect f,
    v.readAt (Elt F) (slabRect 640 (by decide)).toLoadRect f,
    v.readAt (Elt F) (slabRect 768 (by decide)).toLoadRect f,
    v.readAt (Elt F) (slabRect 896 (by decide)).toLoadRect f]

/-- Two hundred and fifty-six rows of the keys or of the values, as they are loaded. -/
def chunk {sig : RefSig} {κ : Kind} {sp : Space} (v : View sig κ sp S1x32768x256 .fp8e4m3) (off : Fin 3 → ℕ)
    (h : ∀ a, off a + S1x256x256.size a ≤ S1x32768x256.size a) (f : v.ty.Contents (Elt F)) : Vec F S1x256x256 .fp8e4m3 :=
  v.readAt (Elt F) (Rect.unit (s := S1x32768x256) off S1x256x256.size h).toLoadRect f

/-- The queries of the eight slabs, as they are loaded. -/
def queries {sig : RefSig} {κ : Kind} {sp : Space} (v : View sig κ sp S1024x256 .fp8e4m3) (f : v.ty.Contents (Elt F)) :
    Vec F S1024x256 .fp8e4m3 :=
  v.readAt (Elt F) (Rect.unit (s := S1024x256) ![0, 0] S1024x256.size inb_S1024x256_S1024x256_0_0).toLoadRect f

/-- The result of the eight slabs so far, as it is loaded. -/
def outs {sig : RefSig} {κ : Kind} {sp : Space} (v : View sig κ sp S1024x256 .f32) (f : v.ty.Contents (Elt F)) :
    Vec F S1024x256 .f32 :=
  v.readAt (Elt F) (Rect.unit (s := S1024x256) ![0, 0] S1024x256.size inb_S1024x256_S1024x256_0_0).toLoadRect f

/-- The one store of the result so far. -/
def outPiece (w : FVec F S1024x256 .f32) : List (View.Piece (Elt F) S1024x256 .f32) :=
  [⟨Rect.unit ![0, 0] S1024x256.size inb_S1024x256_S1024x256_0_0, w⟩]

/-- The result so far and what a chunk adds to it. -/
def plus (o w : FVec F S1024x256 .f32) : FVec F S1024x256 .f32 :=
  shapeCast S1024x256 (addf o w) shapeCasts_S1024x256_S1024x256

/-- The codes of the eight slabs, one below the other. -/
def stack (w : Fin 8 → FVec F S128x256 .fp8e4m3) : FVec F S1024x256 .fp8e4m3 :=
  concatenate S1024x256 0 [⟨S128x256, w 0⟩, ⟨S128x256, w 1⟩, ⟨S128x256, w 2⟩, ⟨S128x256, w 3⟩, ⟨S128x256, w 4⟩,
    ⟨S128x256, w 5⟩, ⟨S128x256, w 6⟩, ⟨S128x256, w 7⟩]
    concatenates_S128x256_S128x256_S128x256_S128x256_S128x256_S128x256_S128x256_S128x256_S1024x256_d0

/-- The codes of a chunk times its values. -/
def attend (w : Fin 8 → FVec F S128x256 .fp8e4m3) (vc : Vec F S1x256x256 .fp8e4m3) : FVec F S1024x256 .f32 :=
  matmul dot_S1024x256_S256x256_S1024x256_1_0_0_1_n_n none (stack w) (shapeCast S256x256 vc shapeCasts_S1x256x256_S256x256)
    (constant S1024x256 .f32 0x00000000#32)

/-- The codes a chunk's scores give, at the slabs `m` of what is subtracted. -/
def chunkCodes (c : Fin 8 → F .f32) (m : Fin 8 → FVec F S128x128 .f32) (s : FVec F S1024x256 .f32) : Fin 8 → FVec F S128x256 .fp8e4m3 :=
  fun g => codes (prob (lo c s g) (m g)) (prob (hi c s g) (m g))

/-- The running sums after a chunk. -/
def chunkSums (c : Fin 8 → F .f32) (m l : Fin 8 → FVec F S128x128 .f32) (s : FVec F S1024x256 .f32) : Fin 8 → FVec F S128x128 .f32 :=
  fun g => sumOf (l g) (prob (lo c s g) (m g)) (prob (hi c s g) (m g))

/-- The running maxima after a chunk. -/
def chunkMax (c : Fin 8 → F .f32) (m : Fin 8 → FVec F S128x128 .f32) (s : FVec F S1024x256 .f32) : Fin 8 → FVec F S128x128 .f32 :=
  fun g => maxOf (m g) (lo c s g) (hi c s g)

/-- The running sum of one slab after a chunk. -/
def sumOfAt (c : Fin 8 → F .f32) (m : Fin 8 → FVec F S128x128 .f32) (s : FVec F S1024x256 .f32) (g : Fin 8)
    (l : FVec F S128x128 .f32) : FVec F S128x128 .f32 :=
  sumOf l (prob (lo c s g) (m g)) (prob (hi c s g) (m g))

section Cover

variable {sig : RefSig} {κ' : Kind} {sp : Space} (v : View sig κ' sp S1024x128 .f32)

/-- What each slab reads after the stores `L` that cover it. -/
def cov (L : List (View.Piece (Elt F) S1024x128 .f32)) : Fin 8 → FVec F S128x128 .f32 :=
  ![v.readCov L (slabRect 0 (by decide)).toLoadRect,
    v.readCov L (slabRect 128 (by decide)).toLoadRect,
    v.readCov L (slabRect 256 (by decide)).toLoadRect,
    v.readCov L (slabRect 384 (by decide)).toLoadRect,
    v.readCov L (slabRect 512 (by decide)).toLoadRect,
    v.readCov L (slabRect 640 (by decide)).toLoadRect,
    v.readCov L (slabRect 768 (by decide)).toLoadRect,
    v.readCov L (slabRect 896 (by decide)).toLoadRect]

/-- A load of a slab does not see a store of another slab. -/
theorem readCov_miss (a b : ℕ) (ha : a + 128 ≤ 1024) (hb : b + 128 ≤ 1024) (hab : a + 128 ≤ b ∨ b + 128 ≤ a)
    (w : FVec F S128x128 .f32) (L : List (View.Piece (Elt F) S1024x128 .f32)) :
    v.readCov (⟨slabRect a ha, w⟩ :: L) (slabRect b hb).toLoadRect = v.readCov L (slabRect b hb).toLoadRect := by
  funext x
  refine View.read_writes_cons_miss_of_axis v _ _ L _ 0 a 128 rfl rfl rfl ?_
  have hx : (x 0).val < 128 := (x 0).isLt
  have : (((slabRect b hb).toLoadRect.idx x) 0).val = b + 1 * (x 0).val := rfl
  omega

/-- A pass that changes the slabs one after the other, each load after the stores before it, stores what it would if
    every slab had been loaded before the first store. -/
theorem pass_eq (T : Fin 8 → FVec F S128x128 .f32 → FVec F S128x128 .f32)
    {L0 L1 L2 L3 L4 L5 L6 L7 L8 : List (View.Piece (Elt F) S1024x128 .f32)}
    (h1 : L1 = ⟨slabRect 0 (by decide), T 0 (v.readCov L0 (slabRect 0 (by decide)).toLoadRect)⟩ :: L0)
    (h2 : L2 = ⟨slabRect 128 (by decide), T 1 (v.readCov L1 (slabRect 128 (by decide)).toLoadRect)⟩ :: L1)
    (h3 : L3 = ⟨slabRect 256 (by decide), T 2 (v.readCov L2 (slabRect 256 (by decide)).toLoadRect)⟩ :: L2)
    (h4 : L4 = ⟨slabRect 384 (by decide), T 3 (v.readCov L3 (slabRect 384 (by decide)).toLoadRect)⟩ :: L3)
    (h5 : L5 = ⟨slabRect 512 (by decide), T 4 (v.readCov L4 (slabRect 512 (by decide)).toLoadRect)⟩ :: L4)
    (h6 : L6 = ⟨slabRect 640 (by decide), T 5 (v.readCov L5 (slabRect 640 (by decide)).toLoadRect)⟩ :: L5)
    (h7 : L7 = ⟨slabRect 768 (by decide), T 6 (v.readCov L6 (slabRect 768 (by decide)).toLoadRect)⟩ :: L6)
    (h8 : L8 = ⟨slabRect 896 (by decide), T 7 (v.readCov L7 (slabRect 896 (by decide)).toLoadRect)⟩ :: L7) :
    L8 = pieces (fun g => T g (cov v L0 g)) ++ L0 := by
  subst h1 h2 h3 h4 h5 h6 h7 h8
  unfold pieces
  simp (discharger := decide) only [readCov_miss, List.cons_append, List.nil_append]
  rfl

end Cover

/-- A slab's rows lie in the buffer. -/
theorem row_lt (g : Fin 8) (r : Fin 128) : 128 * g.val + r.val < 1024 := by omega

/-- Row `r` of slab `g`. -/
def row (g : Fin 8) (r : Fin 128) : Fin 1024 := ⟨128 * g.val + r.val, row_lt g r⟩

/-- Every row is a row of a slab. -/
theorem exists_row (n : Fin 1024) : ∃ g r, n = row g r :=
  ⟨⟨n.val / 128, by omega⟩, ⟨n.val % 128, by omega⟩, Fin.ext (by simp only [row]; omega)⟩

/-- After the eight stores of a pass the buffer holds, in the rows of each slab, what was stored there. -/
theorem read_pieces {sig : RefSig} {κ : Kind} {sp : Space} (v : View sig κ sp S1024x128 .f32) (f : v.ty.Contents (Elt F))
    (w : Fin 8 → FVec F S128x128 .f32) (rest : List (View.Piece (Elt F) S1024x128 .f32)) (g : Fin 8) (r l : Fin 128) :
    v.read (Elt F) (v.writes (Elt F) f (pieces w ++ rest)) (ix2 (row g r) l) = w g (ix2 r l) := by
  have hit : ∀ (o : ℕ) (h : o + 128 ≤ 1024) (u : FVec F S128x128 .f32) (L : List (View.Piece (Elt F) S1024x128 .f32)), o = 128 * g.val →
      v.read (Elt F) (v.writes (Elt F) f (⟨slabRect o h, u⟩ :: L)) (ix2 (row g r) l) = u (ix2 r l) := by
    intro o h u L ho
    refine View.read_writes_cons_hit_of_coords v f (slabRect o h) u L (ix2 r l : S128x128.Idx) _ fun a => ?_
    match a with
    | ⟨0, _⟩ => show 128 * g.val + r.val = o + 1 * r.val; omega
    | ⟨1, _⟩ => show l.val = 0 + 1 * l.val; omega
  have miss : ∀ (o : ℕ) (h : o + 128 ≤ 1024) (u : FVec F S128x128 .f32) (L : List (View.Piece (Elt F) S1024x128 .f32)),
      128 * g.val + 128 ≤ o →
      v.read (Elt F) (v.writes (Elt F) f (⟨slabRect o h, u⟩ :: L)) (ix2 (row g r) l) = v.read (Elt F) (v.writes (Elt F) f L) (ix2 (row g r) l) :=
    fun o h u L ho => View.read_writes_cons_miss_of_axis v f _ L _ 0 o 128 rfl rfl rfl
      (Or.inl (show 128 * g.val + r.val < o by omega))
  unfold pieces
  simp only [List.cons_append, List.nil_append]
  fin_cases g
  all_goals
    repeat first
      | exact hit _ _ _ _ (by decide)
      | refine (miss _ _ _ _ (by decide)).trans ?_

section Cover'

variable {sig : RefSig} {κ' : Kind} {sp : Space} (v : View sig κ' sp S1024x128 .f32)

/-- Element `(r, l)` of the slab `g` of a buffer is element `(r, l)` of its rows. -/
theorem loads_apply (f : v.ty.Contents (Elt F)) (g : Fin 8) (r l : Fin 128) :
    loads v f g (ix2 r l) = v.read (Elt F) f (ix2 (row g r) l) := by
  have key : ∀ (o : ℕ) (h : o + 128 ≤ 1024), o = 128 * g.val →
      v.readAt (Elt F) (slabRect o h).toLoadRect f (ix2 r l : S128x128.Idx) = v.read (Elt F) f (ix2 (row g r) l) := by
    intro o h ho
    refine congrArg (v.read (Elt F) f) (funext fun a => ?_)
    match a with
    | ⟨0, _⟩ => exact Fin.ext (by show o + 1 * r.val = 128 * g.val + r.val; omega)
    | ⟨1, _⟩ => exact Fin.ext (by show 0 + 1 * l.val = l.val; omega)
  fin_cases g
  all_goals exact key _ _ rfl

/-- What the slabs read after stores `L` that cover them is what they read of a buffer so filled. -/
theorem cov_eq (L : List (View.Piece (Elt F) S1024x128 .f32)) : cov v L = loads v (v.writes (Elt F) v.junk L) := rfl

/-- After the eight stores of a pass, each slab reads what was stored there. -/
theorem cov_pieces (w : Fin 8 → FVec F S128x128 .f32) (L : List (View.Piece (Elt F) S1024x128 .f32)) :
    cov v (pieces w ++ L) = w := by
  funext g
  rw [cov_eq]
  funext x
  obtain ⟨r, l, rfl⟩ : ∃ r l : Fin 128, x = ix2 r l := ⟨x 0, x 1, funext fun a => by fin_cases a <;> rfl⟩
  rw [loads_apply, read_pieces]

/-- … if nothing was stored before, too. -/
theorem cov_pieces' (w : Fin 8 → FVec F S128x128 .f32) : cov v (pieces w) = w := by
  simpa using cov_pieces v w []

end Cover'

end Cert.KernelIdeal.Slab

end
-- ==== Proof.Trips.lean ====
/- What one trip of each loop stores, in the terms of the slabs. -/
module

public import proofs.«01_k».proof.Proof.Slab
public import proofs.«01_k».proof.Proof.Gen.KernelIdeal.Loops

@[expose] public section

set_option maxRecDepth 65536

noncomputable section

namespace Cert.KernelIdeal.Slab

open Cert.KernelIdeal Cert.KernelIdeal.Gen Idealize.ShloMosaic

variable {F : FTy → Type} [FloatOps F] [Named F]
variable (𝒱 : Variants) (c : Dev nD) (bd : Option 𝒱.V) (i : grid0.Coords)
  (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x128x2048 .fp8e4m3) (harg6 : arg6.IsWhole) (arg7 : Memref sig .tc .vmem S1x32768x256 .fp8e4m3) (harg7 : arg7.IsWhole) (arg8 : Memref sig .tc .vmem S1x32768x256 .fp8e4m3) (harg8 : arg8.IsWhole) (arg9 : Memref sig .tc .vmem S1x128x2048 .bf16) (harg9 : arg9.IsWhole) (arg10 : Memref sig .tc .vmem S1024x256 .fp8e4m3) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x256 .f32) (harg13 : arg13.IsWhole)
  (v7 v15 v23 v31 v39 v47 v55 v63 : F .f32) (v121 : BitVec 32) (v132 v135 : IVec S128x128 1) (c0 v144 c1 c4 v301 c0' v323 : BitVec 32)
  (X_arg7 : BufTy.Contents (Elt F) arg7.view.ty) (X_arg8 : BufTy.Contents (Elt F) arg8.view.ty)
  (X_arg10 : BufTy.Contents (Elt F) arg10.view.ty) (X_arg11 : BufTy.Contents (Elt F) arg11.view.ty)

/-- One trip of the pass for the maxima: every slab's maximum, raised by the chunk. -/
theorem trip1 (k : Fin (k0_t1_loop i).trips) (f : BufTy.Contents (Elt F) arg11.view.ty) :
    (trip_k0_t1 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 v132 v135 c0 v144 c1 X_arg7 X_arg10 k).1 f
      = pieces (chunkMax ![v7, v15, v23, v31, v39, v47, v55, v63] (loads arg11.view f)
          (scores (chunk arg7.view (k0_off3 i k) (k0_off3_inb i k) X_arg7)
            (queries arg10.view X_arg10))) := by
  unfold trip_k0_t1
  rfl

/-- One trip of the loop over single chunks: every slab's sum, raised by the chunk. -/
theorem trip5_sums (k : Fin (k0_t5_loop i).trips) (f : BufTy.Contents (Elt F) arg12.view.ty) (o : BufTy.Contents (Elt F) arg13.view.ty) :
    (trip_k0_t5 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' v323 X_arg7 X_arg8 X_arg10 X_arg11 k).1 f o
      = pieces (chunkSums ![v7, v15, v23, v31, v39, v47, v55, v63] (loads arg11.view X_arg11) (loads arg12.view f)
          (scores (chunk arg7.view (k0_off10 i k) (k0_off10_inb i k) X_arg7)
            (queries arg10.view X_arg10))) := by
  unfold trip_k0_t5
  rfl

/-- … and the result, raised by what the chunk adds. -/
theorem trip5_outs (k : Fin (k0_t5_loop i).trips) (f : BufTy.Contents (Elt F) arg12.view.ty) (o : BufTy.Contents (Elt F) arg13.view.ty) :
    (trip_k0_t5 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' v323 X_arg7 X_arg8 X_arg10 X_arg11 k).2.1 f o
      = outPiece (plus (outs arg13.view o) (attend (chunkCodes ![v7, v15, v23, v31, v39, v47, v55, v63] (loads arg11.view X_arg11)
          (scores (chunk arg7.view (k0_off10 i k) (k0_off10_inb i k) X_arg7) (queries arg10.view X_arg10)))
          (chunk arg8.view (k0_off10 i k) (k0_off10_inb i k) X_arg8))) := by
  unfold trip_k0_t5
  rfl

/-- What one chunk of the four of a trip of the main loop adds to the result. -/
def added (m : Fin 8 → FVec F S128x128 .f32) (cs : Fin 8 → F .f32) (off : Fin 3 → ℕ)
    (h : ∀ a, off a + S1x256x256.size a ≤ S1x32768x256.size a) : FVec F S1024x256 .f32 :=
  attend (chunkCodes cs m (scores (chunk arg7.view off h X_arg7) (queries arg10.view X_arg10))) (chunk arg8.view off h X_arg8)

/-- One trip of the main loop adds to the result what its four chunks give. -/
theorem trip3_outs (k : Fin (k0_t3_loop i).trips) (f : BufTy.Contents (Elt F) arg12.view.ty) (o : BufTy.Contents (Elt F) arg13.view.ty) :
    (trip_k0_t3 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 k).2.1 f o
      = outPiece (plus (outs arg13.view o) (addf (addf (addf
          (added arg7 arg8 arg10 X_arg7 X_arg8 X_arg10 (loads arg11.view X_arg11) ![v7, v15, v23, v31, v39, v47, v55, v63] (k0_off6 i k) (k0_off6_inb i k))
          (added arg7 arg8 arg10 X_arg7 X_arg8 X_arg10 (loads arg11.view X_arg11) ![v7, v15, v23, v31, v39, v47, v55, v63] (k0_off7 i k 1#32) (k0_off7_inb i k 0)))
          (added arg7 arg8 arg10 X_arg7 X_arg8 X_arg10 (loads arg11.view X_arg11) ![v7, v15, v23, v31, v39, v47, v55, v63] (k0_off7 i k 2#32) (k0_off7_inb i k 1)))
          (added arg7 arg8 arg10 X_arg7 X_arg8 X_arg10 (loads arg11.view X_arg11) ![v7, v15, v23, v31, v39, v47, v55, v63] (k0_off7 i k 3#32) (k0_off7_inb i k 2)))) := by
  unfold trip_k0_t3
  rfl

/-- The scores of a chunk whose keys are loaded at `off`. -/
def scoresAt (off : Fin 3 → ℕ) (h : ∀ a, off a + S1x256x256.size a ≤ S1x32768x256.size a) : FVec F S1024x256 .f32 :=
  scores (chunk arg7.view off h X_arg7) (queries arg10.view X_arg10)

/-- The pass of the first chunk, over the sums as they were. -/
theorem trip3_first (k : Fin (k0_t3_loop i).trips) (f : BufTy.Contents (Elt F) arg12.view.ty) :
    trip_k0_t3.sl.HW_arg12_8 i arg7 arg10 arg11 arg12 v7 v15 v23 v31 v39 v47 v55 v63 X_arg7 X_arg10 X_arg11 k f
      = pieces (chunkSums ![v7, v15, v23, v31, v39, v47, v55, v63] (loads arg11.view X_arg11) (loads arg12.view f) (scoresAt arg7 arg10 X_arg7 X_arg10 (k0_off6 i k) (k0_off6_inb i k))) := rfl

/-- The pass of the second chunk, over the passes before it. -/
theorem trip3_second (k : Fin (k0_t3_loop i).trips) (f : BufTy.Contents (Elt F) arg12.view.ty) :
    trip_k0_t3.sl.HW_arg12_16 i arg7 arg10 arg11 arg12 v7 v15 v23 v31 v39 v47 v55 v63 X_arg7 X_arg10 X_arg11 k f
      = pieces (chunkSums ![v7, v15, v23, v31, v39, v47, v55, v63] (loads arg11.view X_arg11) (cov arg12.view (trip_k0_t3.sl.HW_arg12_8 i arg7 arg10 arg11 arg12 v7 v15 v23 v31 v39 v47 v55 v63 X_arg7 X_arg10 X_arg11 k f)) (scoresAt arg7 arg10 X_arg7 X_arg10 (k0_off7 i k 1#32) (k0_off7_inb i k 0)))
        ++ (trip_k0_t3.sl.HW_arg12_8 i arg7 arg10 arg11 arg12 v7 v15 v23 v31 v39 v47 v55 v63 X_arg7 X_arg10 X_arg11 k f) :=
  pass_eq arg12.view (fun g l => sumOfAt ![v7, v15, v23, v31, v39, v47, v55, v63] (loads arg11.view X_arg11) (scoresAt arg7 arg10 X_arg7 X_arg10 (k0_off7 i k 1#32) (k0_off7_inb i k 0)) g l)
    (L0 := trip_k0_t3.sl.HW_arg12_8 i arg7 arg10 arg11 arg12 v7 v15 v23 v31 v39 v47 v55 v63 X_arg7 X_arg10 X_arg11 k f)
    (L1 := trip_k0_t3.sl.HW_arg12_9 i arg7 arg10 arg11 arg12 v7 v15 v23 v31 v39 v47 v55 v63 X_arg7 X_arg10 X_arg11 k f)
    (L2 := trip_k0_t3.sl.HW_arg12_10 i arg7 arg10 arg11 arg12 v7 v15 v23 v31 v39 v47 v55 v63 X_arg7 X_arg10 X_arg11 k f)
    (L3 := trip_k0_t3.sl.HW_arg12_11 i arg7 arg10 arg11 arg12 v7 v15 v23 v31 v39 v47 v55 v63 X_arg7 X_arg10 X_arg11 k f)
    (L4 := trip_k0_t3.sl.HW_arg12_12 i arg7 arg10 arg11 arg12 v7 v15 v23 v31 v39 v47 v55 v63 X_arg7 X_arg10 X_arg11 k f)
    (L5 := trip_k0_t3.sl.HW_arg12_13 i arg7 arg10 arg11 arg12 v7 v15 v23 v31 v39 v47 v55 v63 X_arg7 X_arg10 X_arg11 k f)
    (L6 := trip_k0_t3.sl.HW_arg12_14 i arg7 arg10 arg11 arg12 v7 v15 v23 v31 v39 v47 v55 v63 X_arg7 X_arg10 X_arg11 k f)
    (L7 := trip_k0_t3.sl.HW_arg12_15 i arg7 arg10 arg11 arg12 v7 v15 v23 v31 v39 v47 v55 v63 X_arg7 X_arg10 X_arg11 k f)
    (L8 := trip_k0_t3.sl.HW_arg12_16 i arg7 arg10 arg11 arg12 v7 v15 v23 v31 v39 v47 v55 v63 X_arg7 X_arg10 X_arg11 k f)
    rfl rfl rfl rfl rfl rfl rfl rfl

/-- The pass of the third chunk, over the passes before it. -/
theorem trip3_third (k : Fin (k0_t3_loop i).trips) (f : BufTy.Contents (Elt F) arg12.view.ty) :
    trip_k0_t3.sl.HW_arg12_24 i arg7 arg10 arg11 arg12 v7 v15 v23 v31 v39 v47 v55 v63 X_arg7 X_arg10 X_arg11 k f
      = pieces (chunkSums ![v7, v15, v23, v31, v39, v47, v55, v63] (loads arg11.view X_arg11) (cov arg12.view (trip_k0_t3.sl.HW_arg12_16 i arg7 arg10 arg11 arg12 v7 v15 v23 v31 v39 v47 v55 v63 X_arg7 X_arg10 X_arg11 k f)) (scoresAt arg7 arg10 X_arg7 X_arg10 (k0_off7 i k 2#32) (k0_off7_inb i k 1)))
        ++ (trip_k0_t3.sl.HW_arg12_16 i arg7 arg10 arg11 arg12 v7 v15 v23 v31 v39 v47 v55 v63 X_arg7 X_arg10 X_arg11 k f) :=
  pass_eq arg12.view (fun g l => sumOfAt ![v7, v15, v23, v31, v39, v47, v55, v63] (loads arg11.view X_arg11) (scoresAt arg7 arg10 X_arg7 X_arg10 (k0_off7 i k 2#32) (k0_off7_inb i k 1)) g l)
    (L0 := trip_k0_t3.sl.HW_arg12_16 i arg7 arg10 arg11 arg12 v7 v15 v23 v31 v39 v47 v55 v63 X_arg7 X_arg10 X_arg11 k f)
    (L1 := trip_k0_t3.sl.HW_arg12_17 i arg7 arg10 arg11 arg12 v7 v15 v23 v31 v39 v47 v55 v63 X_arg7 X_arg10 X_arg11 k f)
    (L2 := trip_k0_t3.sl.HW_arg12_18 i arg7 arg10 arg11 arg12 v7 v15 v23 v31 v39 v47 v55 v63 X_arg7 X_arg10 X_arg11 k f)
    (L3 := trip_k0_t3.sl.HW_arg12_19 i arg7 arg10 arg11 arg12 v7 v15 v23 v31 v39 v47 v55 v63 X_arg7 X_arg10 X_arg11 k f)
    (L4 := trip_k0_t3.sl.HW_arg12_20 i arg7 arg10 arg11 arg12 v7 v15 v23 v31 v39 v47 v55 v63 X_arg7 X_arg10 X_arg11 k f)
    (L5 := trip_k0_t3.sl.HW_arg12_21 i arg7 arg10 arg11 arg12 v7 v15 v23 v31 v39 v47 v55 v63 X_arg7 X_arg10 X_arg11 k f)
    (L6 := trip_k0_t3.sl.HW_arg12_22 i arg7 arg10 arg11 arg12 v7 v15 v23 v31 v39 v47 v55 v63 X_arg7 X_arg10 X_arg11 k f)
    (L7 := trip_k0_t3.sl.HW_arg12_23 i arg7 arg10 arg11 arg12 v7 v15 v23 v31 v39 v47 v55 v63 X_arg7 X_arg10 X_arg11 k f)
    (L8 := trip_k0_t3.sl.HW_arg12_24 i arg7 arg10 arg11 arg12 v7 v15 v23 v31 v39 v47 v55 v63 X_arg7 X_arg10 X_arg11 k f)
    rfl rfl rfl rfl rfl rfl rfl rfl

/-- The pass of the fourth chunk, over the passes before it. -/
theorem trip3_fourth (k : Fin (k0_t3_loop i).trips) (f : BufTy.Contents (Elt F) arg12.view.ty) (o : BufTy.Contents (Elt F) arg13.view.ty) :
    (trip_k0_t3 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 k).1 f o
      = pieces (chunkSums ![v7, v15, v23, v31, v39, v47, v55, v63] (loads arg11.view X_arg11) (cov arg12.view (trip_k0_t3.sl.HW_arg12_24 i arg7 arg10 arg11 arg12 v7 v15 v23 v31 v39 v47 v55 v63 X_arg7 X_arg10 X_arg11 k f)) (scoresAt arg7 arg10 X_arg7 X_arg10 (k0_off7 i k 3#32) (k0_off7_inb i k 2)))
        ++ (trip_k0_t3.sl.HW_arg12_24 i arg7 arg10 arg11 arg12 v7 v15 v23 v31 v39 v47 v55 v63 X_arg7 X_arg10 X_arg11 k f) := by
  unfold trip_k0_t3
  exact pass_eq arg12.view (fun g l => sumOfAt ![v7, v15, v23, v31, v39, v47, v55, v63] (loads arg11.view X_arg11) (scoresAt arg7 arg10 X_arg7 X_arg10 (k0_off7 i k 3#32) (k0_off7_inb i k 2)) g l)
    (L0 := trip_k0_t3.sl.HW_arg12_24 i arg7 arg10 arg11 arg12 v7 v15 v23 v31 v39 v47 v55 v63 X_arg7 X_arg10 X_arg11 k f)
    (L1 := trip_k0_t3.sl.HW_arg12_25 i arg7 arg10 arg11 arg12 v7 v15 v23 v31 v39 v47 v55 v63 X_arg7 X_arg10 X_arg11 k f)
    (L2 := trip_k0_t3.sl.HW_arg12_26 i arg7 arg10 arg11 arg12 v7 v15 v23 v31 v39 v47 v55 v63 X_arg7 X_arg10 X_arg11 k f)
    (L3 := trip_k0_t3.sl.HW_arg12_27 i arg7 arg10 arg11 arg12 v7 v15 v23 v31 v39 v47 v55 v63 X_arg7 X_arg10 X_arg11 k f)
    (L4 := trip_k0_t3.sl.HW_arg12_28 i arg7 arg10 arg11 arg12 v7 v15 v23 v31 v39 v47 v55 v63 X_arg7 X_arg10 X_arg11 k f)
    (L5 := trip_k0_t3.sl.HW_arg12_29 i arg7 arg10 arg11 arg12 v7 v15 v23 v31 v39 v47 v55 v63 X_arg7 X_arg10 X_arg11 k f)
    (L6 := trip_k0_t3.sl.HW_arg12_30 i arg7 arg10 arg11 arg12 v7 v15 v23 v31 v39 v47 v55 v63 X_arg7 X_arg10 X_arg11 k f)
    (L7 := trip_k0_t3.sl.HW_arg12_31 i arg7 arg10 arg11 arg12 v7 v15 v23 v31 v39 v47 v55 v63 X_arg7 X_arg10 X_arg11 k f)
    rfl rfl rfl rfl rfl rfl rfl rfl

/-- After one trip of the main loop the buffer of the sums ends with the pass of the fourth chunk over the third's,
    the second's and the first's. -/
theorem trip3_sums (k : Fin (k0_t3_loop i).trips) (f : BufTy.Contents (Elt F) arg12.view.ty) (o : BufTy.Contents (Elt F) arg13.view.ty) :
    ∃ rest, (trip_k0_t3 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 k).1 f o
      = pieces (chunkSums ![v7, v15, v23, v31, v39, v47, v55, v63] (loads arg11.view X_arg11)
         (chunkSums ![v7, v15, v23, v31, v39, v47, v55, v63] (loads arg11.view X_arg11)
         (chunkSums ![v7, v15, v23, v31, v39, v47, v55, v63] (loads arg11.view X_arg11)
         (chunkSums ![v7, v15, v23, v31, v39, v47, v55, v63] (loads arg11.view X_arg11) (loads arg12.view f)
           (scoresAt arg7 arg10 X_arg7 X_arg10 (k0_off6 i k) (k0_off6_inb i k)))
           (scoresAt arg7 arg10 X_arg7 X_arg10 (k0_off7 i k 1#32) (k0_off7_inb i k 0)))
           (scoresAt arg7 arg10 X_arg7 X_arg10 (k0_off7 i k 2#32) (k0_off7_inb i k 1)))
           (scoresAt arg7 arg10 X_arg7 X_arg10 (k0_off7 i k 3#32) (k0_off7_inb i k 2))) ++ rest := by
  rw [trip3_fourth, trip3_third, trip3_second, trip3_first, cov_pieces', cov_pieces, cov_pieces]
  exact ⟨_, rfl⟩

end Cert.KernelIdeal.Slab

end
-- ==== Proof.Passes.lean ====
/- What the loops compute, chunk by chunk: the running maxima, the running sums, the running result. -/
module

public import proofs.«01_k».proof.Proof.Grid
public import proofs.«01_k».proof.Proof.Trips

@[expose] public section

set_option maxRecDepth 16384

noncomputable section

namespace Cert.KernelIdeal.Slab

open Cert.KernelIdeal Cert.KernelIdeal.Gen Idealize.ShloMosaic

variable {F : FTy → Type} [FloatOps F] [Named F]

/-- Chunk `j` of the keys or of the values lies in the array (the index taken modulo the 128 chunks there are). -/
theorem keyOff_inb (j : ℕ) : ∀ a, keyOff (j % 128) a + S1x256x256.size a ≤ S1x32768x256.size a := by
  have hj : j % 128 < 128 := Nat.mod_lt _ (by decide)
  intro a
  match a with
  | ⟨0, _⟩ => show 0 + 1 ≤ 1; omega
  | ⟨1, _⟩ => show 256 * (j % 128) + 256 ≤ 32768; omega
  | ⟨2, _⟩ => show 0 + 256 ≤ 256; omega

/-- Chunk `j` of the keys or of the values. -/
def chunkAt {sig : RefSig} {κ : Kind} {sp : Space} (v : View sig κ sp S1x32768x256 .fp8e4m3) (f : v.ty.Contents (Elt F))
    (j : ℕ) : Vec F S1x256x256 .fp8e4m3 :=
  chunk v (keyOff (j % 128)) (keyOff_inb j) f

/-- A load at the offsets of chunk `j` is chunk `j`. -/
theorem chunk_eq {sig : RefSig} {κ : Kind} {sp : Space} (v : View sig κ sp S1x32768x256 .fp8e4m3) (f : v.ty.Contents (Elt F))
    (j : ℕ) (off : Fin 3 → ℕ) (h : ∀ a, off a + S1x256x256.size a ≤ S1x32768x256.size a) (ho : off = keyOff j) (hj : j < 128) :
    chunk v off h f = chunkAt v f j := by
  subst ho
  unfold chunkAt
  have e : keyOff (j % 128) = keyOff j := by rw [Nat.mod_eq_of_lt hj]
  congr 1
  exact e.symm

section Model

variable (cs : Fin 8 → F .f32) (q : Vec F S1024x256 .fp8e4m3) (K V : ℕ → Vec F S1x256x256 .fp8e4m3)
  (m : Fin 8 → FVec F S128x128 .f32)

/-- The running maxima after `k` chunks. -/
def maxAt : ℕ → Fin 8 → FVec F S128x128 .f32
  | 0 => fun _ => broadcast S128x128 (Scalar.ofBits .f32 0xFF800000#32)
  | k + 1 => chunkMax cs (maxAt k) (scores (K k) q)

/-- The running sums after `k` chunks. -/
def sumAt : ℕ → Fin 8 → FVec F S128x128 .f32
  | 0 => fun _ => broadcast S128x128 (Scalar.ofBits .f32 0x00000000#32)
  | k + 1 => chunkSums cs m (sumAt k) (scores (K k) q)

/-- What chunk `k` adds to the result. -/
def prodAt (k : ℕ) : FVec F S1024x256 .f32 := attend (chunkCodes cs m (scores (K k) q)) (V k)

/-- The running result after `k` trips of the main loop, four chunks each. -/
def outAt : ℕ → FVec F S1024x256 .f32
  | 0 => broadcast S1024x256 (Scalar.ofBits .f32 0x00000000#32)
  | k + 1 => plus (outAt k) (addf (addf (addf (prodAt cs q K V m (4 * k)) (prodAt cs q K V m (4 * k + 1)))
      (prodAt cs q K V m (4 * k + 2))) (prodAt cs q K V m (4 * k + 3)))

/-- The running result after `j` more chunks. -/
def outTail (a : ℕ) : ℕ → FVec F S1024x256 .f32
  | 0 => outAt cs q K V m a
  | j + 1 => plus (outTail a j) (prodAt cs q K V m (4 * a + j))

end Model

/-- A load of the whole result after one store of the whole result is what was stored. -/
theorem outs_outPiece {sig : RefSig} {κ : Kind} {sp : Space} (v : View sig κ sp S1024x256 .f32) (f : v.ty.Contents (Elt F))
    (w : FVec F S1024x256 .f32) : outs v (v.writes (Elt F) f (outPiece w)) = w := by
  funext x
  show v.read (Elt F) (v.writes (Elt F) f (outPiece w)) ((Rect.unit (s := S1024x256) ![0, 0] S1024x256.size inb_S1024x256_S1024x256_0_0).toLoadRect.idx x) = w x
  exact View.read_writes_cons_hit_of_coords v f (Rect.unit (s := S1024x256) ![0, 0] S1024x256.size inb_S1024x256_S1024x256_0_0) w [] x _ fun a => rfl

section Loops

variable (𝒱 : Variants) (c : Dev nD) (bd : Option 𝒱.V) (i : grid0.Coords)
  (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x128x2048 .fp8e4m3) (harg6 : arg6.IsWhole) (arg7 : Memref sig .tc .vmem S1x32768x256 .fp8e4m3) (harg7 : arg7.IsWhole) (arg8 : Memref sig .tc .vmem S1x32768x256 .fp8e4m3) (harg8 : arg8.IsWhole) (arg9 : Memref sig .tc .vmem S1x128x2048 .bf16) (harg9 : arg9.IsWhole) (arg10 : Memref sig .tc .vmem S1024x256 .fp8e4m3) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x256 .f32) (harg13 : arg13.IsWhole)
  (v7 v15 v23 v31 v39 v47 v55 v63 : F .f32) (v121 : BitVec 32) (v132 v135 : IVec S128x128 1) (c0 v144 c1 c4 v301 c0' v323 : BitVec 32)
  (X_arg7 : BufTy.Contents (Elt F) arg7.view.ty) (X_arg8 : BufTy.Contents (Elt F) arg8.view.ty)
  (X_arg10 : BufTy.Contents (Elt F) arg10.view.ty) (X_arg11 : BufTy.Contents (Elt F) arg11.view.ty)

/-- The slabs after a loop's store list, trip by trip: what its last trip leaves. -/
theorem loads_pieces {sig : RefSig} {κ : Kind} {sp : Space} (v : View sig κ sp S1024x128 .f32) (f : v.ty.Contents (Elt F))
    (w : Fin 8 → FVec F S128x128 .f32) (rest : List (View.Piece (Elt F) S1024x128 .f32)) :
    loads v (v.writes (Elt F) f (pieces w ++ rest)) = w := by
  funext g x
  obtain ⟨r, l, rfl⟩ : ∃ r l : Fin 128, x = ix2 r l := ⟨x 0, x 1, funext fun a => by fin_cases a <;> rfl⟩
  rw [loads_apply, read_pieces]

/-- The chunks before the last one are at most 127. -/
theorem full_lt : full i < 128 := by unfold full; omega

/-- The pass for the maxima. -/
theorem loop1 (G : BufTy.Contents (Elt F) arg11.view.ty) (cs : Fin 8 → F .f32) (hcs : cs = ![v7, v15, v23, v31, v39, v47, v55, v63])
    (hG : loads arg11.view G = maxAt cs (queries arg10.view X_arg10) (chunkAt arg7.view X_arg7) 0) (k : ℕ) (hk : k ≤ full i) :
    loads arg11.view (arg11.view.writes (Elt F) G (pb_k0_t1 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 v132 v135 c0 v144 c1 X_arg7 X_arg10 G k))
      = maxAt cs (queries arg10.view X_arg10) (chunkAt arg7.view X_arg7) k := by
  subst hcs
  induction k with
  | zero => exact hG
  | succ k ih =>
    have hk' : k < (k0_t1_loop i).trips := by rw [trips1]; omega
    have e := pb_k0_t1_succ 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 v132 v135 c0 v144 c1 X_arg7 X_arg10 G ⟨k, hk'⟩
    rw [show k + 1 = (⟨k, hk'⟩ : Fin (k0_t1_loop i).trips).val + 1 from rfl, e]
    refine (congrArg (fun L => loads arg11.view (arg11.view.writes (Elt F) G (L ++ _))) (trip1 ..)).trans ?_
    rw [loads_pieces, ih (by omega), chunk_eq _ _ k _ _ (off3 i ⟨k, hk'⟩) (by have := full_lt i; omega)]
    rfl

/-- The main loop: the sums and the result after `k` trips. -/
theorem loop3 (G : BufTy.Contents (Elt F) arg12.view.ty) (H : BufTy.Contents (Elt F) arg13.view.ty)
    (cs : Fin 8 → F .f32) (hcs : cs = ![v7, v15, v23, v31, v39, v47, v55, v63])
    (hG : loads arg12.view G = sumAt cs (queries arg10.view X_arg10) (chunkAt arg7.view X_arg7) (loads arg11.view X_arg11) 0)
    (hH : outs arg13.view H = outAt cs (queries arg10.view X_arg10) (chunkAt arg7.view X_arg7) (chunkAt arg8.view X_arg8) (loads arg11.view X_arg11) 0)
    (k : ℕ) (hk : k ≤ full i / 4) :
    loads arg12.view (arg12.view.writes (Elt F) G (pb_k0_t3 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 G H k).1)
      = sumAt cs (queries arg10.view X_arg10) (chunkAt arg7.view X_arg7) (loads arg11.view X_arg11) (4 * k)
    ∧ outs arg13.view (arg13.view.writes (Elt F) H (pb_k0_t3 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 G H k).2)
      = outAt cs (queries arg10.view X_arg10) (chunkAt arg7.view X_arg7) (chunkAt arg8.view X_arg8) (loads arg11.view X_arg11) k := by
  subst hcs
  induction k with
  | zero => exact ⟨hG, hH⟩
  | succ k ih =>
    have hk' : k < (k0_t3_loop i).trips := by rw [trips3]; omega
    have hf := full_lt i
    obtain ⟨ih1, ih2⟩ := ih (by omega)
    have e := pb_k0_t3_succ 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 G H ⟨k, hk'⟩
    obtain ⟨h71, h72, h73⟩ := off7 i ⟨k, hk'⟩
    rw [show k + 1 = (⟨k, hk'⟩ : Fin (k0_t3_loop i).trips).val + 1 from rfl, e]
    constructor
    · obtain ⟨rest, hr⟩ := trip3_sums 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 ⟨k, hk'⟩ (arg12.view.writes (Elt F) G (pb_k0_t3 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 G H k).1) (arg13.view.writes (Elt F) H (pb_k0_t3 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' X_arg7 X_arg8 X_arg10 X_arg11 G H k).2)
      refine (congrArg (fun L => loads arg12.view (arg12.view.writes (Elt F) G (L ++ _))) hr).trans ?_
      rw [List.append_assoc, loads_pieces, ih1]
      unfold scoresAt
      rw [chunk_eq _ _ (4 * k) _ _ (off6 i ⟨k, hk'⟩) (by omega), chunk_eq _ _ (4 * k + 1) _ _ h71 (by omega),
        chunk_eq _ _ (4 * k + 2) _ _ h72 (by omega), chunk_eq _ _ (4 * k + 3) _ _ h73 (by omega)]
      rfl
    · refine (congrArg (fun L => outs arg13.view (arg13.view.writes (Elt F) H (L ++ _))) (trip3_outs ..)).trans ?_
      rw [View.writes_append, outs_outPiece, ih2]
      unfold added
      rw [chunk_eq _ _ (4 * k) _ _ (off6 i ⟨k, hk'⟩) (by omega), chunk_eq _ _ (4 * k + 1) _ _ h71 (by omega),
        chunk_eq _ _ (4 * k + 2) _ _ h72 (by omega), chunk_eq _ _ (4 * k + 3) _ _ h73 (by omega),
        chunk_eq arg8.view _ (4 * k) _ _ (off6 i ⟨k, hk'⟩) (by omega), chunk_eq arg8.view _ (4 * k + 1) _ _ h71 (by omega),
        chunk_eq arg8.view _ (4 * k + 2) _ _ h72 (by omega), chunk_eq arg8.view _ (4 * k + 3) _ _ h73 (by omega)]
      rfl

/-- The loop over the chunks left over: the sums and the result after `k` more chunks. -/
theorem loop5 (G : BufTy.Contents (Elt F) arg12.view.ty) (H : BufTy.Contents (Elt F) arg13.view.ty)
    (cs : Fin 8 → F .f32) (hcs : cs = ![v7, v15, v23, v31, v39, v47, v55, v63])
    (hG : loads arg12.view G = sumAt cs (queries arg10.view X_arg10) (chunkAt arg7.view X_arg7) (loads arg11.view X_arg11) (4 * (full i / 4)))
    (hH : outs arg13.view H = outTail cs (queries arg10.view X_arg10) (chunkAt arg7.view X_arg7) (chunkAt arg8.view X_arg8) (loads arg11.view X_arg11) (full i / 4) 0)
    (k : ℕ) (hk : k ≤ full i % 4) :
    loads arg12.view (arg12.view.writes (Elt F) G (pb_k0_t5 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' v323 X_arg7 X_arg8 X_arg10 X_arg11 G H k).1)
      = sumAt cs (queries arg10.view X_arg10) (chunkAt arg7.view X_arg7) (loads arg11.view X_arg11) (4 * (full i / 4) + k)
    ∧ outs arg13.view (arg13.view.writes (Elt F) H (pb_k0_t5 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' v323 X_arg7 X_arg8 X_arg10 X_arg11 G H k).2)
      = outTail cs (queries arg10.view X_arg10) (chunkAt arg7.view X_arg7) (chunkAt arg8.view X_arg8) (loads arg11.view X_arg11) (full i / 4) k := by
  subst hcs
  induction k with
  | zero => exact ⟨hG, hH⟩
  | succ k ih =>
    have hk' : k < (k0_t5_loop i).trips := by rw [trips5]; omega
    have hf := full_lt i
    obtain ⟨ih1, ih2⟩ := ih (by omega)
    have e := pb_k0_t5_succ 𝒱 c bd i arg3 harg3 arg4 harg4 arg5 harg5 arg6 harg6 arg7 harg7 arg8 harg8 arg9 harg9 arg10 harg10 arg11 harg11 arg12 harg12 arg13 harg13 v7 v15 v23 v31 v39 v47 v55 v63 v121 c4 v301 c0' v323 X_arg7 X_arg8 X_arg10 X_arg11 G H ⟨k, hk'⟩
    rw [show k + 1 = (⟨k, hk'⟩ : Fin (k0_t5_loop i).trips).val + 1 from rfl, e]
    constructor
    · refine (congrArg (fun L => loads arg12.view (arg12.view.writes (Elt F) G (L ++ _))) (trip5_sums ..)).trans ?_
      rw [loads_pieces, ih1, chunk_eq _ _ (4 * (full i / 4) + k) _ _ (off10 i ⟨k, hk'⟩) (by omega)]
      rfl
    · refine (congrArg (fun L => outs arg13.view (arg13.view.writes (Elt F) H (L ++ _))) (trip5_outs ..)).trans ?_
      rw [View.writes_append, outs_outPiece, ih2, chunk_eq _ _ (4 * (full i / 4) + k) _ _ (off10 i ⟨k, hk'⟩) (by omega),
        chunk_eq arg8.view _ (4 * (full i / 4) + k) _ _ (off10 i ⟨k, hk'⟩) (by omega)]
      rfl

end Loops

end Cert.KernelIdeal.Slab

end
-- ==== Proof.Body.lean ====
/- The body of the kernel at a grid point: the loops, the last chunk under its mask, the eight stores of the result. -/
module

public import proofs.«01_k».proof.Proof.Passes
public import proofs.«01_k».proof.Proof.Gen.KernelIdeal.Frame

@[expose] public section

set_option maxRecDepth 65536

noncomputable section

namespace Cert.KernelIdeal.Slab

open Cert.KernelIdeal Cert.KernelIdeal.Gen Idealize.ShloMosaic

variable {F : FTy → Type} [FloatOps F] [Named F]

/-- Which keys of the last chunk's first tile a row sees. -/
def maskLo (i : grid0.Coords) : IVec S128x128 1 := k0_pay469 (BitVec.ofNat 32 (i 2).val) 128#32

/-- Which keys of the last chunk's second tile a row sees. -/
def maskHi (i : grid0.Coords) : IVec S128x128 1 := k0_pay470 (BitVec.ofNat 32 (i 2).val) 128#32

/-- The scores a row sees; the others are minus infinity. -/
def seen (k : IVec S128x128 1) (x : FVec F S128x128 .f32) : FVec F S128x128 .f32 :=
  select k x (broadcast S128x128 (Scalar.ofBits .f32 0xFF800000#32))

/-- The probabilities of the keys a row sees; the others are zero. -/
def kept (k : IVec S128x128 1) (p : FVec F S128x128 .f32) : FVec F S128x128 .f32 :=
  select k p (broadcast S128x128 (Scalar.ofBits .f32 0x00000000#32))

/-- The maximum of a slab after the last chunk. -/
def lastMax (c : Fin 8 → F .f32) (a b : IVec S128x128 1) (s : FVec F S1024x256 .f32) (g : Fin 8) (m : FVec F S128x128 .f32) :
    FVec F S128x128 .f32 :=
  maxOf m (seen a (lo c s g)) (seen b (hi c s g))

/-- The sum of a slab after the last chunk. -/
def lastSum (c : Fin 8 → F .f32) (a b : IVec S128x128 1) (m : Fin 8 → FVec F S128x128 .f32) (s : FVec F S1024x256 .f32) (g : Fin 8)
    (l : FVec F S128x128 .f32) : FVec F S128x128 .f32 :=
  sumOf l (kept a (prob (lo c s g) (m g))) (kept b (prob (hi c s g) (m g)))

/-- The codes of a slab in the last chunk. -/
def lastCodes (c : Fin 8 → F .f32) (a b : IVec S128x128 1) (m : Fin 8 → FVec F S128x128 .f32) (s : FVec F S1024x256 .f32) (g : Fin 8) :
    FVec F S128x256 .fp8e4m3 :=
  codes (kept a (prob (lo c s g) (m g))) (kept b (prob (hi c s g) (m g)))

section Whole

variable {sig : RefSig} {κ' : Kind} {sp : Space}

/-- A load of a whole buffer of maxima or sums. -/
def whole (v : View sig κ' sp S1024x128 .f32) (f : v.ty.Contents (Elt F)) : Vec F S1024x128 .f32 :=
  v.readAt (Elt F) (Rect.unit (s := S1024x128) ![0, 0] S1024x128.size inb_S1024x128_S1024x128_0_0).toLoadRect f

/-- Its elements are the slabs' elements. -/
theorem whole_apply (v : View sig κ' sp S1024x128 .f32) (f : v.ty.Contents (Elt F)) (g : Fin 8) (r l : Fin 128) :
    whole v f (ix2 (row g r) l) = loads v f g (ix2 r l) := by
  rw [loads_apply]
  refine congrArg (v.read (Elt F) f) (funext fun a => ?_)
  match a with
  | ⟨0, _⟩ => exact Fin.ext (by show 0 + 1 * (128 * g.val + r.val) = 128 * g.val + r.val; omega)
  | ⟨1, _⟩ => exact Fin.ext (by show 0 + 1 * l.val = l.val; omega)

/-- After a store of the whole buffer the slabs hold its rows. -/
theorem loads_fill (v : View sig κ' sp S1024x128 .f32) (f : v.ty.Contents (Elt F)) (w : FVec F S1024x128 .f32)
    (L : List (View.Piece (Elt F) S1024x128 .f32)) (g : Fin 8) (r l : Fin 128) :
    loads v (v.writes (Elt F) f (⟨Rect.unit ![0, 0] S1024x128.size inb_S1024x128_S1024x128_0_0, w⟩ :: L)) g (ix2 r l)
      = w (ix2 (row g r) l) := by
  rw [loads_apply]
  refine View.read_writes_cons_hit_of_coords v f (Rect.unit ![0, 0] S1024x128.size inb_S1024x128_S1024x128_0_0) w L
    (ix2 (row g r) l : S1024x128.Idx) _ fun a => ?_
  match a with
  | ⟨0, _⟩ => show 128 * g.val + r.val = 0 + 1 * (128 * g.val + r.val); omega
  | ⟨1, _⟩ => show l.val = 0 + 1 * l.val; omega

end Whole

section Run

variable (c : Dev nD) (i : grid0.Coords) (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x128x2048 .fp8e4m3) (harg6 : arg6.IsWhole) (arg7 : Memref sig .tc .vmem S1x32768x256 .fp8e4m3) (harg7 : arg7.IsWhole) (arg8 : Memref sig .tc .vmem S1x32768x256 .fp8e4m3) (harg8 : arg8.IsWhole) (arg9 : Memref sig .tc .vmem S1x128x2048 .bf16) (harg9 : arg9.IsWhole) (arg10 : Memref sig .tc .vmem S1024x256 .fp8e4m3) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x256 .f32) (harg13 : arg13.IsWhole)
  (x0 : Vec F S16 .f32) (x1 : Vec F S2 .f32) (x2 : Vec F S2 .f32) (x3 : Vec F S1x128x2048 .fp8e4m3) (x4 : Vec F S1x32768x256 .fp8e4m3) (x5 : Vec F S1x32768x256 .fp8e4m3)

/-- The scales of the eight heads of the group. -/
def heads : Fin 8 → F .f32 :=
  ![kernelRun0_A.sl.r_6 c i arg3 harg3 arg4 harg4 x0 x1, kernelRun0_A.sl.r_7 c i arg3 harg3 arg4 harg4 x0 x1, kernelRun0_A.sl.r_8 c i arg3 harg3 arg4 harg4 x0 x1, kernelRun0_A.sl.r_9 c i arg3 harg3 arg4 harg4 x0 x1, kernelRun0_A.sl.r_10 c i arg3 harg3 arg4 harg4 x0 x1, kernelRun0_A.sl.r_14 c i arg3 harg3 arg4 harg4 x0 x1, kernelRun0_A.sl.r_15 c i arg3 harg3 arg4 harg4 x0 x1, kernelRun0_A.sl.r_16 c i arg3 harg3 arg4 harg4 x0 x1]

/-- The stores to the maxima before the last chunk. -/
def maxStores : List (View.Piece (Elt F) S1024x128 .f32) :=
  pb_k0_t2 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (kernelRun0_A.sl.r_18 i) (kernelRun0_A.sl.r_19 i) (0#32) (kernelRun0_A.sl.v144 i) (1#32) (harg7.unread x4) (arg10.view.writes (Elt F) arg10.view.junk (kernelRun0_A.sl.HS0_8 c arg6 harg6 x3)) (arg11.view.writes (Elt F) arg11.view.junk (pb_k0_t1 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (kernelRun0_A.sl.r_18 i) (kernelRun0_A.sl.r_19 i) (0#32) (kernelRun0_A.sl.v144 i) (1#32) (harg7.unread x4) (arg10.view.writes (Elt F) arg10.view.junk (kernelRun0_A.sl.HS0_8 c arg6 harg6 x3)) (arg11.view.writes (Elt F) arg11.view.junk kernelRun0_A.sl.HS1_1) (Scf.trips (k0_t1_loop i).lb (k0_t1_loop i).ub (k0_t1_loop i).st) ++ kernelRun0_A.sl.HS1_1)) (Scf.trips (k0_t2_loop i).lb (k0_t2_loop i).ub (k0_t2_loop i).st)
    ++ (pb_k0_t1 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (kernelRun0_A.sl.r_18 i) (kernelRun0_A.sl.r_19 i) (0#32) (kernelRun0_A.sl.v144 i) (1#32) (harg7.unread x4) (arg10.view.writes (Elt F) arg10.view.junk (kernelRun0_A.sl.HS0_8 c arg6 harg6 x3)) (arg11.view.writes (Elt F) arg11.view.junk kernelRun0_A.sl.HS1_1) (Scf.trips (k0_t1_loop i).lb (k0_t1_loop i).ub (k0_t1_loop i).st) ++ kernelRun0_A.sl.HS1_1)

/-- The maxima after them. -/
theorem maxStores_eq : cov arg11.view (maxStores c i arg3 harg3 arg4 harg4 arg5 harg5 arg6 harg6 arg7 harg7 arg8 harg8 arg9 harg9 arg10 harg10 arg11 harg11 arg12 harg12 arg13 harg13 x0 x1 x3 x4)
    = maxAt (heads c i arg3 harg3 arg4 harg4 x0 x1) (queries arg10.view (arg10.view.writes (Elt F) arg10.view.junk (kernelRun0_A.sl.HS0_8 c arg6 harg6 x3))) (chunkAt arg7.view (harg7.unread x4)) (full i) := by
  have e2 : (Scf.trips (k0_t2_loop i).lb (k0_t2_loop i).ub (k0_t2_loop i).st) = 0 := trips2 i
  have e1 : (Scf.trips (k0_t1_loop i).lb (k0_t1_loop i).ub (k0_t1_loop i).st) = full i := trips1 i
  rw [cov_eq]
  unfold maxStores
  rw [e2, e1]
  show loads arg11.view (arg11.view.writes (Elt F) arg11.view.junk (_ ++ kernelRun0_A.sl.HS1_1)) = _
  rw [View.writes_append]
  refine loop1 _ _ _ _ _ _ _ _ _ _ _ _ _ _ _ _ _ _ _ _ _ _ _ _ _ _ _ _ _ _ _ _ _ _ _ _ _ _ _ _ _ _ _ _ rfl ?_ _ le_rfl
  funext g x
  obtain ⟨r, l, rfl⟩ : ∃ r l : Fin 128, x = ix2 r l := ⟨x 0, x 1, funext fun a => by fin_cases a <;> rfl⟩
  exact loads_fill arg11.view _ _ [] g r l

/-- The last chunk's pass for the maxima. -/
theorem lastMax_eq : kernelRun0_A.sl.HS1_8 c i arg3 harg3 arg4 harg4 arg5 harg5 arg6 harg6 arg7 harg7 arg8 harg8 arg9 harg9 arg10 harg10 arg11 harg11 arg12 harg12 arg13 harg13 x0 x1 x3 x4
    = pieces (fun g => lastMax (heads c i arg3 harg3 arg4 harg4 x0 x1) (maskLo i) (maskHi i) (scores (chunk arg7.view (k0_off5 i) (k0_off5_inb i) (harg7.unread x4)) (queries arg10.view (arg10.view.writes (Elt F) arg10.view.junk (kernelRun0_A.sl.HS0_8 c arg6 harg6 x3)))) g (cov arg11.view (maxStores c i arg3 harg3 arg4 harg4 arg5 harg5 arg6 harg6 arg7 harg7 arg8 harg8 arg9 harg9 arg10 harg10 arg11 harg11 arg12 harg12 arg13 harg13 x0 x1 x3 x4) g))
      ++ maxStores c i arg3 harg3 arg4 harg4 arg5 harg5 arg6 harg6 arg7 harg7 arg8 harg8 arg9 harg9 arg10 harg10 arg11 harg11 arg12 harg12 arg13 harg13 x0 x1 x3 x4 :=
  pass_eq arg11.view (fun g l => lastMax (heads c i arg3 harg3 arg4 harg4 x0 x1) (maskLo i) (maskHi i) (scores (chunk arg7.view (k0_off5 i) (k0_off5_inb i) (harg7.unread x4)) (queries arg10.view (arg10.view.writes (Elt F) arg10.view.junk (kernelRun0_A.sl.HS0_8 c arg6 harg6 x3)))) g l)
    (L1 := kernelRun0_A.sl.HS1_1_1 c i arg3 harg3 arg4 harg4 arg5 harg5 arg6 harg6 arg7 harg7 arg8 harg8 arg9 harg9 arg10 harg10 arg11 harg11 arg12 harg12 arg13 harg13 x0 x1 x3 x4)
    (L2 := kernelRun0_A.sl.HS1_2 c i arg3 harg3 arg4 harg4 arg5 harg5 arg6 harg6 arg7 harg7 arg8 harg8 arg9 harg9 arg10 harg10 arg11 harg11 arg12 harg12 arg13 harg13 x0 x1 x3 x4)
    (L3 := kernelRun0_A.sl.HS1_3 c i arg3 harg3 arg4 harg4 arg5 harg5 arg6 harg6 arg7 harg7 arg8 harg8 arg9 harg9 arg10 harg10 arg11 harg11 arg12 harg12 arg13 harg13 x0 x1 x3 x4)
    (L4 := kernelRun0_A.sl.HS1_4 c i arg3 harg3 arg4 harg4 arg5 harg5 arg6 harg6 arg7 harg7 arg8 harg8 arg9 harg9 arg10 harg10 arg11 harg11 arg12 harg12 arg13 harg13 x0 x1 x3 x4)
    (L5 := kernelRun0_A.sl.HS1_5 c i arg3 harg3 arg4 harg4 arg5 harg5 arg6 harg6 arg7 harg7 arg8 harg8 arg9 harg9 arg10 harg10 arg11 harg11 arg12 harg12 arg13 harg13 x0 x1 x3 x4)
    (L6 := kernelRun0_A.sl.HS1_6 c i arg3 harg3 arg4 harg4 arg5 harg5 arg6 harg6 arg7 harg7 arg8 harg8 arg9 harg9 arg10 harg10 arg11 harg11 arg12 harg12 arg13 harg13 x0 x1 x3 x4)
    (L7 := kernelRun0_A.sl.HS1_7 c i arg3 harg3 arg4 harg4 arg5 harg5 arg6 harg6 arg7 harg7 arg8 harg8 arg9 harg9 arg10 harg10 arg11 harg11 arg12 harg12 arg13 harg13 x0 x1 x3 x4)
    (L8 := kernelRun0_A.sl.HS1_8 c i arg3 harg3 arg4 harg4 arg5 harg5 arg6 harg6 arg7 harg7 arg8 harg8 arg9 harg9 arg10 harg10 arg11 harg11 arg12 harg12 arg13 harg13 x0 x1 x3 x4)
    rfl rfl rfl rfl rfl rfl rfl rfl

/-- The buffer of the maxima, once it holds what is subtracted in the exponents. -/
def shiftBuf : BufTy.Contents (Elt F) arg11.view.ty :=
  arg11.view.writes (Elt F) arg11.view.junk (⟨Rect.unit ![0, 0] S1024x128.size inb_S1024x128_S1024x128_0_0, k0_pay489 (kernelRun0_A.sl.v280 c i arg3 harg3 arg4 harg4 arg5 harg5 arg6 harg6 arg7 harg7 arg8 harg8 arg9 harg9 arg10 harg10 arg11 harg11 arg12 harg12 arg13 harg13 x0 x1 x3 x4)⟩ :: kernelRun0_A.sl.HS1_8 c i arg3 harg3 arg4 harg4 arg5 harg5 arg6 harg6 arg7 harg7 arg8 harg8 arg9 harg9 arg10 harg10 arg11 harg11 arg12 harg12 arg13 harg13 x0 x1 x3 x4)

/-- The stores to the sums and to the result before the loops. -/
def start : List (View.Piece (Elt F) S1024x128 .f32) × List (View.Piece (Elt F) S1024x256 .f32) := (kernelRun0_A.sl.HS2_1, kernelRun0_A.sl.HS3_1)

/-- … after the main loop. -/
def afterMain : List (View.Piece (Elt F) S1024x128 .f32) × List (View.Piece (Elt F) S1024x256 .f32) :=
  ((pb_k0_t3 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32)  (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (start (F := F)).1) (arg13.view.writes (Elt F) arg13.view.junk (start (F := F)).2) (Scf.trips (k0_t3_loop i).lb (k0_t3_loop i).ub (k0_t3_loop i).st)).1 ++ (start (F := F)).1,
   (pb_k0_t3 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32)  (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (start (F := F)).1) (arg13.view.writes (Elt F) arg13.view.junk (start (F := F)).2) (Scf.trips (k0_t3_loop i).lb (k0_t3_loop i).ub (k0_t3_loop i).st)).2 ++ (start (F := F)).2)

/-- … after the loop that never runs, beside it. -/
def afterSpare : List (View.Piece (Elt F) S1024x128 .f32) × List (View.Piece (Elt F) S1024x256 .f32) :=
  ((pb_k0_t4 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32) (kernelRun0_A.sl.v322 i) (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (afterMain c i arg3 harg3 arg4 harg4 arg5 harg5 arg6 harg6 arg7 harg7 arg8 harg8 arg9 harg9 arg10 harg10 arg11 harg11 arg12 harg12 arg13 harg13 x0 x1 x3 x4 x5).1) (arg13.view.writes (Elt F) arg13.view.junk (afterMain c i arg3 harg3 arg4 harg4 arg5 harg5 arg6 harg6 arg7 harg7 arg8 harg8 arg9 harg9 arg10 harg10 arg11 harg11 arg12 harg12 arg13 harg13 x0 x1 x3 x4 x5).2) (Scf.trips (k0_t4_loop i).lb (k0_t4_loop i).ub (k0_t4_loop i).st)).1 ++ (afterMain c i arg3 harg3 arg4 harg4 arg5 harg5 arg6 harg6 arg7 harg7 arg8 harg8 arg9 harg9 arg10 harg10 arg11 harg11 arg12 harg12 arg13 harg13 x0 x1 x3 x4 x5).1,
   (pb_k0_t4 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32) (kernelRun0_A.sl.v322 i) (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (afterMain c i arg3 harg3 arg4 harg4 arg5 harg5 arg6 harg6 arg7 harg7 arg8 harg8 arg9 harg9 arg10 harg10 arg11 harg11 arg12 harg12 arg13 harg13 x0 x1 x3 x4 x5).1) (arg13.view.writes (Elt F) arg13.view.junk (afterMain c i arg3 harg3 arg4 harg4 arg5 harg5 arg6 harg6 arg7 harg7 arg8 harg8 arg9 harg9 arg10 harg10 arg11 harg11 arg12 harg12 arg13 harg13 x0 x1 x3 x4 x5).2) (Scf.trips (k0_t4_loop i).lb (k0_t4_loop i).ub (k0_t4_loop i).st)).2 ++ (afterMain c i arg3 harg3 arg4 harg4 arg5 harg5 arg6 harg6 arg7 harg7 arg8 harg8 arg9 harg9 arg10 harg10 arg11 harg11 arg12 harg12 arg13 harg13 x0 x1 x3 x4 x5).2)

/-- … after the loop over the chunks left over. -/
def afterTail : List (View.Piece (Elt F) S1024x128 .f32) × List (View.Piece (Elt F) S1024x256 .f32) :=
  ((pb_k0_t5 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32) (kernelRun0_A.sl.v323 i) (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (afterSpare c i arg3 harg3 arg4 harg4 arg5 harg5 arg6 harg6 arg7 harg7 arg8 harg8 arg9 harg9 arg10 harg10 arg11 harg11 arg12 harg12 arg13 harg13 x0 x1 x3 x4 x5).1) (arg13.view.writes (Elt F) arg13.view.junk (afterSpare c i arg3 harg3 arg4 harg4 arg5 harg5 arg6 harg6 arg7 harg7 arg8 harg8 arg9 harg9 arg10 harg10 arg11 harg11 arg12 harg12 arg13 harg13 x0 x1 x3 x4 x5).2) (Scf.trips (k0_t5_loop i).lb (k0_t5_loop i).ub (k0_t5_loop i).st)).1 ++ (afterSpare c i arg3 harg3 arg4 harg4 arg5 harg5 arg6 harg6 arg7 harg7 arg8 harg8 arg9 harg9 arg10 harg10 arg11 harg11 arg12 harg12 arg13 harg13 x0 x1 x3 x4 x5).1,
   (pb_k0_t5 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32) (kernelRun0_A.sl.v323 i) (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (afterSpare c i arg3 harg3 arg4 harg4 arg5 harg5 arg6 harg6 arg7 harg7 arg8 harg8 arg9 harg9 arg10 harg10 arg11 harg11 arg12 harg12 arg13 harg13 x0 x1 x3 x4 x5).1) (arg13.view.writes (Elt F) arg13.view.junk (afterSpare c i arg3 harg3 arg4 harg4 arg5 harg5 arg6 harg6 arg7 harg7 arg8 harg8 arg9 harg9 arg10 harg10 arg11 harg11 arg12 harg12 arg13 harg13 x0 x1 x3 x4 x5).2) (Scf.trips (k0_t5_loop i).lb (k0_t5_loop i).ub (k0_t5_loop i).st)).2 ++ (afterSpare c i arg3 harg3 arg4 harg4 arg5 harg5 arg6 harg6 arg7 harg7 arg8 harg8 arg9 harg9 arg10 harg10 arg11 harg11 arg12 harg12 arg13 harg13 x0 x1 x3 x4 x5).2)

/-- … after the last loop, which never runs. -/
def afterLoops : List (View.Piece (Elt F) S1024x128 .f32) × List (View.Piece (Elt F) S1024x256 .f32) :=
  ((pb_k0_t6 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32) (kernelRun0_A.sl.v328 i) (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (afterTail c i arg3 harg3 arg4 harg4 arg5 harg5 arg6 harg6 arg7 harg7 arg8 harg8 arg9 harg9 arg10 harg10 arg11 harg11 arg12 harg12 arg13 harg13 x0 x1 x3 x4 x5).1) (arg13.view.writes (Elt F) arg13.view.junk (afterTail c i arg3 harg3 arg4 harg4 arg5 harg5 arg6 harg6 arg7 harg7 arg8 harg8 arg9 harg9 arg10 harg10 arg11 harg11 arg12 harg12 arg13 harg13 x0 x1 x3 x4 x5).2) (Scf.trips (k0_t6_loop i).lb (k0_t6_loop i).ub (k0_t6_loop i).st)).1 ++ (afterTail c i arg3 harg3 arg4 harg4 arg5 harg5 arg6 harg6 arg7 harg7 arg8 harg8 arg9 harg9 arg10 harg10 arg11 harg11 arg12 harg12 arg13 harg13 x0 x1 x3 x4 x5).1,
   (pb_k0_t6 Variants.none c none i arg3 harg3 arg4 harg4 arg5 harg5 arg6 harg6 arg7 harg7 arg8 harg8 arg9 harg9 arg10 harg10 arg11 harg11 arg12 harg12 arg13 harg13 (kernelRun0_A.sl.r_6 c i arg3 harg3 arg4 harg4 x0 x1) (kernelRun0_A.sl.r_7 c i arg3 harg3 arg4 harg4 x0 x1) (kernelRun0_A.sl.r_8 c i arg3 harg3 arg4 harg4 x0 x1) (kernelRun0_A.sl.r_9 c i arg3 harg3 arg4 harg4 x0 x1) (kernelRun0_A.sl.r_10 c i arg3 harg3 arg4 harg4 x0 x1) (kernelRun0_A.sl.r_14 c i arg3 harg3 arg4 harg4 x0 x1) (kernelRun0_A.sl.r_15 c i arg3 harg3 arg4 harg4 x0 x1) (kernelRun0_A.sl.r_16 c i arg3 harg3 arg4 harg4 x0 x1) (kernelRun0_A.sl.v121 i) (4#32) (kernelRun0_A.sl.v301 i) (0#32) (kernelRun0_A.sl.v328 i) (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) (arg12.view.writes (Elt F) arg12.view.junk (afterTail c i arg3 harg3 arg4 harg4 arg5 harg5 arg6 harg6 arg7 harg7 arg8 harg8 arg9 harg9 arg10 harg10 arg11 harg11 arg12 harg12 arg13 harg13 x0 x1 x3 x4 x5).1) (arg13.view.writes (Elt F) arg13.view.junk (afterTail c i arg3 harg3 arg4 harg4 arg5 harg5 arg6 harg6 arg7 harg7 arg8 harg8 arg9 harg9 arg10 harg10 arg11 harg11 arg12 harg12 arg13 harg13 x0 x1 x3 x4 x5).2) (Scf.trips (k0_t6_loop i).lb (k0_t6_loop i).ub (k0_t6_loop i).st)).2 ++ (afterTail c i arg3 harg3 arg4 harg4 arg5 harg5 arg6 harg6 arg7 harg7 arg8 harg8 arg9 harg9 arg10 harg10 arg11 harg11 arg12 harg12 arg13 harg13 x0 x1 x3 x4 x5).2)

/-- The sums and the result after the main loop. -/
theorem afterMain_eq :
    loads arg12.view (arg12.view.writes (Elt F) arg12.view.junk (afterMain c i arg3 harg3 arg4 harg4 arg5 harg5 arg6 harg6 arg7 harg7 arg8 harg8 arg9 harg9 arg10 harg10 arg11 harg11 arg12 harg12 arg13 harg13 x0 x1 x3 x4 x5).1) = sumAt (heads c i arg3 harg3 arg4 harg4 x0 x1) (queries arg10.view (arg10.view.writes (Elt F) arg10.view.junk (kernelRun0_A.sl.HS0_8 c arg6 harg6 x3))) (chunkAt arg7.view (harg7.unread x4)) (loads arg11.view (shiftBuf c i arg3 harg3 arg4 harg4 arg5 harg5 arg6 harg6 arg7 harg7 arg8 harg8 arg9 harg9 arg10 harg10 arg11 harg11 arg12 harg12 arg13 harg13 x0 x1 x3 x4)) (4 * (full i / 4))
    ∧ outs arg13.view (arg13.view.writes (Elt F) arg13.view.junk (afterMain c i arg3 harg3 arg4 harg4 arg5 harg5 arg6 harg6 arg7 harg7 arg8 harg8 arg9 harg9 arg10 harg10 arg11 harg11 arg12 harg12 arg13 harg13 x0 x1 x3 x4 x5).2)
      = outAt (heads c i arg3 harg3 arg4 harg4 x0 x1) (queries arg10.view (arg10.view.writes (Elt F) arg10.view.junk (kernelRun0_A.sl.HS0_8 c arg6 harg6 x3))) (chunkAt arg7.view (harg7.unread x4)) (chunkAt arg8.view (harg8.unread x5)) (loads arg11.view (shiftBuf c i arg3 harg3 arg4 harg4 arg5 harg5 arg6 harg6 arg7 harg7 arg8 harg8 arg9 harg9 arg10 harg10 arg11 harg11 arg12 harg12 arg13 harg13 x0 x1 x3 x4)) (full i / 4) := by
  have e3 : (Scf.trips (k0_t3_loop i).lb (k0_t3_loop i).ub (k0_t3_loop i).st) = full i / 4 := trips3 i
  unfold afterMain
  rw [e3]
  dsimp only
  rw [View.writes_append, View.writes_append]
  refine loop3 _ _ _ _ _ _ _ _ _ _ _ _ _ _ _ _ _ _ _ _ _ _ _ _ _ _ _ _ _ _ _ _ _ _ _ _ _ _ _ _ _ _ _ _ _ rfl ?_ ?_ _ le_rfl
  · funext g x
    obtain ⟨r, l, rfl⟩ : ∃ r l : Fin 128, x = ix2 r l := ⟨x 0, x 1, funext fun a => by fin_cases a <;> rfl⟩
    exact loads_fill arg12.view _ _ [] g r l
  · exact outs_outPiece arg13.view _ _

/-- A list after nothing, and its like, are themselves. -/
theorem nothing_before {α β : Type} (p : List α × List β) (a : List α × List β) (h : a = ([], [])) : (a.1 ++ p.1, a.2 ++ p.2) = p := by
  subst h
  rfl

/-- The loop beside the main loop stores nothing. -/
theorem afterSpare_eq : afterSpare c i arg3 harg3 arg4 harg4 arg5 harg5 arg6 harg6 arg7 harg7 arg8 harg8 arg9 harg9 arg10 harg10 arg11 harg11 arg12 harg12 arg13 harg13 x0 x1 x3 x4 x5 = afterMain c i arg3 harg3 arg4 harg4 arg5 harg5 arg6 harg6 arg7 harg7 arg8 harg8 arg9 harg9 arg10 harg10 arg11 harg11 arg12 harg12 arg13 harg13 x0 x1 x3 x4 x5 := by
  have e4 : (Scf.trips (k0_t4_loop i).lb (k0_t4_loop i).ub (k0_t4_loop i).st) = 0 := trips4 i
  unfold afterSpare
  rw [e4]
  refine nothing_before _ _ ?_
  rw [pb_k0_t4]

/-- The last loop stores nothing. -/
theorem afterLoops_tail : afterLoops c i arg3 harg3 arg4 harg4 arg5 harg5 arg6 harg6 arg7 harg7 arg8 harg8 arg9 harg9 arg10 harg10 arg11 harg11 arg12 harg12 arg13 harg13 x0 x1 x3 x4 x5 = afterTail c i arg3 harg3 arg4 harg4 arg5 harg5 arg6 harg6 arg7 harg7 arg8 harg8 arg9 harg9 arg10 harg10 arg11 harg11 arg12 harg12 arg13 harg13 x0 x1 x3 x4 x5 := by
  have e6 : (Scf.trips (k0_t6_loop i).lb (k0_t6_loop i).ub (k0_t6_loop i).st) = 0 := trips6 i
  unfold afterLoops
  rw [e6]
  refine nothing_before _ _ ?_
  rw [pb_k0_t6]

/-- The sums and the result after the loops. -/
theorem afterLoops_eq :
    cov arg12.view (afterLoops c i arg3 harg3 arg4 harg4 arg5 harg5 arg6 harg6 arg7 harg7 arg8 harg8 arg9 harg9 arg10 harg10 arg11 harg11 arg12 harg12 arg13 harg13 x0 x1 x3 x4 x5).1 = sumAt (heads c i arg3 harg3 arg4 harg4 x0 x1) (queries arg10.view (arg10.view.writes (Elt F) arg10.view.junk (kernelRun0_A.sl.HS0_8 c arg6 harg6 x3))) (chunkAt arg7.view (harg7.unread x4)) (loads arg11.view (shiftBuf c i arg3 harg3 arg4 harg4 arg5 harg5 arg6 harg6 arg7 harg7 arg8 harg8 arg9 harg9 arg10 harg10 arg11 harg11 arg12 harg12 arg13 harg13 x0 x1 x3 x4)) (full i)
    ∧ outs arg13.view (arg13.view.writes (Elt F) arg13.view.junk (afterLoops c i arg3 harg3 arg4 harg4 arg5 harg5 arg6 harg6 arg7 harg7 arg8 harg8 arg9 harg9 arg10 harg10 arg11 harg11 arg12 harg12 arg13 harg13 x0 x1 x3 x4 x5).2)
      = outTail (heads c i arg3 harg3 arg4 harg4 x0 x1) (queries arg10.view (arg10.view.writes (Elt F) arg10.view.junk (kernelRun0_A.sl.HS0_8 c arg6 harg6 x3))) (chunkAt arg7.view (harg7.unread x4)) (chunkAt arg8.view (harg8.unread x5)) (loads arg11.view (shiftBuf c i arg3 harg3 arg4 harg4 arg5 harg5 arg6 harg6 arg7 harg7 arg8 harg8 arg9 harg9 arg10 harg10 arg11 harg11 arg12 harg12 arg13 harg13 x0 x1 x3 x4)) (full i / 4) (full i % 4) := by
  have e5 : (Scf.trips (k0_t5_loop i).lb (k0_t5_loop i).ub (k0_t5_loop i).st) = full i % 4 := trips5 i
  obtain ⟨h1, h2⟩ := afterMain_eq c i arg3 harg3 arg4 harg4 arg5 harg5 arg6 harg6 arg7 harg7 arg8 harg8 arg9 harg9 arg10 harg10 arg11 harg11 arg12 harg12 arg13 harg13 x0 x1 x3 x4 x5
  rw [cov_eq, afterLoops_tail]
  unfold afterTail
  rw [e5, afterSpare_eq]
  dsimp only
  rw [View.writes_append, View.writes_append]
  obtain ⟨s1, s2⟩ := loop5 _ _ _ _ _ _ _ _ _ _ _ _ _ _ _ _ _ _ _ _ _ _ _ _ _ _ _ _ _ _ _ _ _ _ (kernelRun0_A.sl.v121 i) 4#32 (kernelRun0_A.sl.v301 i) 0#32 (kernelRun0_A.sl.v323 i) (harg7.unread x4) (harg8.unread x5) (arg10.view.writes (Elt F) arg10.view.junk (kernelRun0_A.sl.HS0_8 c arg6 harg6 x3)) (shiftBuf c i arg3 harg3 arg4 harg4 arg5 harg5 arg6 harg6 arg7 harg7 arg8 harg8 arg9 harg9 arg10 harg10 arg11 harg11 arg12 harg12 arg13 harg13 x0 x1 x3 x4) _ _ (heads c i arg3 harg3 arg4 harg4 x0 x1) rfl h1 h2 (full i % 4) le_rfl
  exact ⟨s1.trans (congrArg (sumAt (heads c i arg3 harg3 arg4 harg4 x0 x1) (queries arg10.view (arg10.view.writes (Elt F) arg10.view.junk (kernelRun0_A.sl.HS0_8 c arg6 harg6 x3))) (chunkAt arg7.view (harg7.unread x4)) (loads arg11.view (shiftBuf c i arg3 harg3 arg4 harg4 arg5 harg5 arg6 harg6 arg7 harg7 arg8 harg8 arg9 harg9 arg10 harg10 arg11 harg11 arg12 harg12 arg13 harg13 x0 x1 x3 x4))) (by omega)), s2⟩

/-- The last chunk's pass for the sums. -/
theorem lastSum_eq : kernelRun0_A.sl.HS2_8 c i arg3 harg3 arg4 harg4 arg5 harg5 arg6 harg6 arg7 harg7 arg8 harg8 arg9 harg9 arg10 harg10 arg11 harg11 arg12 harg12 arg13 harg13 x0 x1 x3 x4 x5
    = pieces (fun g => lastSum (heads c i arg3 harg3 arg4 harg4 x0 x1) (maskLo i) (maskHi i) (loads arg11.view (shiftBuf c i arg3 harg3 arg4 harg4 arg5 harg5 arg6 harg6 arg7 harg7 arg8 harg8 arg9 harg9 arg10 harg10 arg11 harg11 arg12 harg12 arg13 harg13 x0 x1 x3 x4)) (scores (chunk arg7.view (k0_off5 i) (k0_off5_inb i) (harg7.unread x4)) (queries arg10.view (arg10.view.writes (Elt F) arg10.view.junk (kernelRun0_A.sl.HS0_8 c arg6 harg6 x3)))) g (cov arg12.view (afterLoops c i arg3 harg3 arg4 harg4 arg5 harg5 arg6 harg6 arg7 harg7 arg8 harg8 arg9 harg9 arg10 harg10 arg11 harg11 arg12 harg12 arg13 harg13 x0 x1 x3 x4 x5).1 g))
      ++ (afterLoops c i arg3 harg3 arg4 harg4 arg5 harg5 arg6 harg6 arg7 harg7 arg8 harg8 arg9 harg9 arg10 harg10 arg11 harg11 arg12 harg12 arg13 harg13 x0 x1 x3 x4 x5).1 :=
  pass_eq arg12.view (fun g l => lastSum (heads c i arg3 harg3 arg4 harg4 x0 x1) (maskLo i) (maskHi i) (loads arg11.view (shiftBuf c i arg3 harg3 arg4 harg4 arg5 harg5 arg6 harg6 arg7 harg7 arg8 harg8 arg9 harg9 arg10 harg10 arg11 harg11 arg12 harg12 arg13 harg13 x0 x1 x3 x4)) (scores (chunk arg7.view (k0_off5 i) (k0_off5_inb i) (harg7.unread x4)) (queries arg10.view (arg10.view.writes (Elt F) arg10.view.junk (kernelRun0_A.sl.HS0_8 c arg6 harg6 x3)))) g l)
    (L1 := kernelRun0_A.sl.HS2_1_1 c i arg3 harg3 arg4 harg4 arg5 harg5 arg6 harg6 arg7 harg7 arg8 harg8 arg9 harg9 arg10 harg10 arg11 harg11 arg12 harg12 arg13 harg13 x0 x1 x3 x4 x5)
    (L2 := kernelRun0_A.sl.HS2_2 c i arg3 harg3 arg4 harg4 arg5 harg5 arg6 harg6 arg7 harg7 arg8 harg8 arg9 harg9 arg10 harg10 arg11 harg11 arg12 harg12 arg13 harg13 x0 x1 x3 x4 x5)
    (L3 := kernelRun0_A.sl.HS2_3 c i arg3 harg3 arg4 harg4 arg5 harg5 arg6 harg6 arg7 harg7 arg8 harg8 arg9 harg9 arg10 harg10 arg11 harg11 arg12 harg12 arg13 harg13 x0 x1 x3 x4 x5)
    (L4 := kernelRun0_A.sl.HS2_4 c i arg3 harg3 arg4 harg4 arg5 harg5 arg6 harg6 arg7 harg7 arg8 harg8 arg9 harg9 arg10 harg10 arg11 harg11 arg12 harg12 arg13 harg13 x0 x1 x3 x4 x5)
    (L5 := kernelRun0_A.sl.HS2_5 c i arg3 harg3 arg4 harg4 arg5 harg5 arg6 harg6 arg7 harg7 arg8 harg8 arg9 harg9 arg10 harg10 arg11 harg11 arg12 harg12 arg13 harg13 x0 x1 x3 x4 x5)
    (L6 := kernelRun0_A.sl.HS2_6 c i arg3 harg3 arg4 harg4 arg5 harg5 arg6 harg6 arg7 harg7 arg8 harg8 arg9 harg9 arg10 harg10 arg11 harg11 arg12 harg12 arg13 harg13 x0 x1 x3 x4 x5)
    (L7 := kernelRun0_A.sl.HS2_7 c i arg3 harg3 arg4 harg4 arg5 harg5 arg6 harg6 arg7 harg7 arg8 harg8 arg9 harg9 arg10 harg10 arg11 harg11 arg12 harg12 arg13 harg13 x0 x1 x3 x4 x5)
    (L8 := kernelRun0_A.sl.HS2_8 c i arg3 harg3 arg4 harg4 arg5 harg5 arg6 harg6 arg7 harg7 arg8 harg8 arg9 harg9 arg10 harg10 arg11 harg11 arg12 harg12 arg13 harg13 x0 x1 x3 x4 x5)
    rfl rfl rfl rfl rfl rfl rfl rfl

/-- The last chunk's store to the result. -/
theorem lastOut_eq : kernelRun0_A.sl.HS3_1_1 c i arg3 harg3 arg4 harg4 arg5 harg5 arg6 harg6 arg7 harg7 arg8 harg8 arg9 harg9 arg10 harg10 arg11 harg11 arg12 harg12 arg13 harg13 x0 x1 x3 x4 x5
    = outPiece (plus (outs arg13.view (arg13.view.writes (Elt F) arg13.view.junk (afterLoops c i arg3 harg3 arg4 harg4 arg5 harg5 arg6 harg6 arg7 harg7 arg8 harg8 arg9 harg9 arg10 harg10 arg11 harg11 arg12 harg12 arg13 harg13 x0 x1 x3 x4 x5).2))
        (attend (lastCodes (heads c i arg3 harg3 arg4 harg4 x0 x1) (maskLo i) (maskHi i) (loads arg11.view (shiftBuf c i arg3 harg3 arg4 harg4 arg5 harg5 arg6 harg6 arg7 harg7 arg8 harg8 arg9 harg9 arg10 harg10 arg11 harg11 arg12 harg12 arg13 harg13 x0 x1 x3 x4)) (scores (chunk arg7.view (k0_off5 i) (k0_off5_inb i) (harg7.unread x4)) (queries arg10.view (arg10.view.writes (Elt F) arg10.view.junk (kernelRun0_A.sl.HS0_8 c arg6 harg6 x3)))))
          (chunk arg8.view (k0_off5 i) (k0_off5_inb i) (harg8.unread x5)))) ++ (afterLoops c i arg3 harg3 arg4 harg4 arg5 harg5 arg6 harg6 arg7 harg7 arg8 harg8 arg9 harg9 arg10 harg10 arg11 harg11 arg12 harg12 arg13 harg13 x0 x1 x3 x4 x5).2 := rfl

end Run

end Cert.KernelIdeal.Slab

end
-- ==== Proof.Consts.lean ====
/- The bit patterns of the programs' constants, as extended reals. -/
module

public import Idealize.ShloMosaic.Lib.Pointwise

@[expose] public section

namespace Cert.Consts

open Idealize.ShloMosaic

/-- 1/256. -/
theorem ofBits_inv256 : Ideal.ofBits .f32 0x3B800000#32 = ((256⁻¹ : ℝ) : EReal) := by
  simp [Ideal.ofBits, Ideal.ieee, -EReal.coe_mul]; norm_num

/-- 1/16. -/
theorem ofBits_inv16 : Ideal.ofBits .f32 0x3D800000#32 = ((16⁻¹ : ℝ) : EReal) := by
  simp [Ideal.ofBits, Ideal.ieee, -EReal.coe_mul]; norm_num

/-- 256. -/
theorem ofBits_256 : Ideal.ofBits .f32 0x43800000#32 = ((256 : ℝ) : EReal) := by
  simp [Ideal.ofBits, Ideal.ieee, -EReal.coe_mul]; norm_num

/-- 8. -/
theorem ofBits_8 : Ideal.ofBits .f32 0x41000000#32 = ((8 : ℝ) : EReal) := by
  simp [Ideal.ofBits, Ideal.ieee, -EReal.coe_mul]; norm_num

/-- 50. -/
theorem ofBits_50 : Ideal.ofBits .f32 0x42480000#32 = ((50 : ℝ) : EReal) := by
  simp [Ideal.ofBits, Ideal.ieee, -EReal.coe_mul]; norm_num

/-- 448. -/
theorem ofBits_448 : Ideal.ofBits .f32 0x43E00000#32 = ((448 : ℝ) : EReal) := by
  simp [Ideal.ofBits, Ideal.ieee, -EReal.coe_mul]; norm_num

/-- −448. -/
theorem ofBits_neg448 : Ideal.ofBits .f32 0xC3E00000#32 = ((-448 : ℝ) : EReal) := by
  simp [Ideal.ofBits, Ideal.ieee, -EReal.coe_mul, -EReal.coe_neg]; norm_num

/-- Minus infinity. -/
theorem ofBits_bot : Ideal.ofBits .f32 0xFF800000#32 = (⊥ : EReal) := by
  simp [Ideal.ofBits, Ideal.ieee]

/-- The `f32` nearest 1/50. -/
theorem ofBits_fiftieth : Ideal.ofBits .f32 0x3CA3D70A#32 = ((10737418 / 536870912 : ℝ) : EReal) := by
  simp [Ideal.ofBits, Ideal.ieee, -EReal.coe_mul]; norm_num

/-- The `f32` nearest 1/800: a sixteenth of it, exactly. -/
theorem ofBits_eightHundredth : Ideal.ofBits .f32 0x3AA3D70A#32 = ((10737418 / 536870912 * 16⁻¹ : ℝ) : EReal) := by
  simp [Ideal.ofBits, Ideal.ieee, -EReal.coe_mul]; norm_num

/-- The two scales of the reference, one after the other, are the one of the kernel. -/
theorem two_scales (a : EReal) : Ideal.ofBits .f32 0x3D800000#32 * a * Ideal.ofBits .f32 0x3CA3D70A#32
    = a * Ideal.ofBits .f32 0x3AA3D70A#32 := by
  rw [ofBits_inv16, ofBits_fiftieth, ofBits_eightHundredth, mul_comm ((10737418 / 536870912 : ℝ)) (16⁻¹ : ℝ), EReal.coe_mul,
    mul_comm _ a, mul_assoc]

end Cert.Consts
-- ==== Proof.Softmax.lean ====
/- The arithmetic of the two programs' softmax on the extended reals, for one query row: the kernel takes the maximum of
   the scores before the soft cap, exponentiates to base two with an offset of eight, and divides last by the sum scaled
   back; the reference takes the maximum after the soft cap, exponentiates to base e and scales the weights by 256.
   `attn_eq` says the two results are equal on every extended real input. -/
module

public import Idealize.ShloMosaic.PureOps.Ideal
public import Idealize.ShloMosaic.PureOps.Ideal.Laws

@[expose] public section

noncomputable section

namespace Cert.Softmax

open Idealize.ShloMosaic
open scoped BigOperators

/-- The soft cap over the natural logarithm of two: what the kernel's named constant denotes. -/
def cap2 : EReal := ((50 * (Real.log 2)⁻¹ : ℝ) : EReal)

/-- The hyperbolic tangent of an extended real, as a real. -/
def tanhR : EReal → ℝ
  | ⊥ => -1
  | ⊤ => 1
  | (r : ℝ) => Real.tanh r

/-- The hyperbolic tangent of an extended real is a real. -/
theorem tanh_eq (y : EReal) : Ideal.tanh y = ((tanhR y : ℝ) : EReal) := by
  induction y with
  | bot => show (-1 : EReal) = ((-1 : ℝ) : EReal); simp
  | coe r => rfl
  | top => show (1 : EReal) = ((1 : ℝ) : EReal); simp

/-- The hyperbolic tangent is monotone on the reals. -/
theorem tanh_real_mono {a b : ℝ} (h : a ≤ b) : Real.tanh a ≤ Real.tanh b := by
  rw [Real.tanh_eq_sinh_div_cosh, Real.tanh_eq_sinh_div_cosh, div_le_div_iff₀ (Real.cosh_pos a) (Real.cosh_pos b)]
  have h2 : 0 ≤ Real.sinh (b - a) := Real.sinh_nonneg_iff.mpr (by linarith)
  rw [Real.sinh_sub] at h2
  linarith

/-- The hyperbolic tangent is at most one. -/
theorem tanh_real_le (a : ℝ) : Real.tanh a ≤ 1 := by
  rw [Real.tanh_eq_sinh_div_cosh, div_le_one (Real.cosh_pos a)]
  exact (Real.sinh_lt_cosh a).le

/-- The hyperbolic tangent is at least minus one. -/
theorem neg_le_tanh_real (a : ℝ) : -1 ≤ Real.tanh a := by
  have h := tanh_real_le (-a)
  rw [Real.tanh_neg] at h
  linarith

/-- The hyperbolic tangent is monotone on the extended reals. -/
theorem tanhR_mono {a b : EReal} (h : a ≤ b) : tanhR a ≤ tanhR b := by
  induction a with
  | bot =>
    induction b with
    | bot => exact le_rfl
    | coe r => exact neg_le_tanh_real r
    | top => show (-1 : ℝ) ≤ 1; norm_num
  | coe a =>
    induction b with
    | bot => simp at h
    | coe r => exact tanh_real_mono (EReal.coe_le_coe_iff.mp h)
    | top => exact tanh_real_le a
  | top =>
    obtain rfl : b = ⊤ := top_le_iff.mp h
    exact le_rfl

/-- The weight of a key relative to the row's largest score, as a real. -/
def w (y X : EReal) : ℝ := Real.exp (50 * tanhR y - 50 * tanhR X)

/-- A weight is positive. -/
theorem w_pos (y X : EReal) : 0 < w y X := Real.exp_pos _

/-- The kernel's power of two is 256 times the weight. -/
theorem exp2_eq (y X : EReal) :
    Ideal.exp2 (Ideal.tanh y * cap2 - (Ideal.tanh X * cap2 - ((8 : ℝ) : EReal))) = ((w y X * 256 : ℝ) : EReal) := by
  rw [tanh_eq, tanh_eq, cap2, ← EReal.coe_mul, ← EReal.coe_mul, ← EReal.coe_sub, ← EReal.coe_sub]
  show ((Real.rpow 2 _ : ℝ) : EReal) = _
  congr 1
  have hl : Real.log 2 ≠ 0 := (Real.log_pos (by norm_num)).ne'
  have hp : ∀ r : ℝ, Real.rpow 2 r = (2 : ℝ) ^ r := fun _ => rfl
  have e8 : (256 : ℝ) = Real.exp (8 * Real.log 2) := by
    rw [mul_comm, Real.exp_mul, Real.exp_log (by norm_num)]; norm_num
  rw [hp, Real.rpow_def_of_pos (by norm_num), w, e8, ← Real.exp_add]
  congr 1
  field_simp
  ring

/-- The reference's exponential is the weight. -/
theorem exp_eq (y X : EReal) :
    Ideal.exp (((50 : ℝ) : EReal) * Ideal.tanh y - ((50 : ℝ) : EReal) * Ideal.tanh X) = ((w y X : ℝ) : EReal) := by
  rw [tanh_eq, tanh_eq, ← EReal.coe_mul, ← EReal.coe_mul, ← EReal.coe_sub]
  rfl

/-- The exponential of a masked score is zero. -/
theorem exp_bot (X : EReal) : Ideal.exp ((⊥ : EReal) - ((50 : ℝ) : EReal) * Ideal.tanh X) = 0 := by
  rw [EReal.bot_sub]; rfl

/-- The quantised weight: clipped to the largest code. -/
def clip (p : EReal) : EReal := min ((448 : ℝ) : EReal) (max ((-448 : ℝ) : EReal) p)

/-- Clipping leaves zero alone. -/
theorem clip_zero : clip 0 = 0 := by
  have h1 : ((-448 : ℝ) : EReal) ≤ 0 := by rw [← EReal.coe_zero, EReal.coe_le_coe_iff]; norm_num
  have h2 : (0 : EReal) ≤ ((448 : ℝ) : EReal) := by rw [← EReal.coe_zero, EReal.coe_le_coe_iff]; norm_num
  rw [clip, max_eq_right h1, min_eq_right h2]

/-- The kernel's weight of key `n` in the row of query `q`, whose largest allowed score is `X`. -/
def pK (x : ℕ → EReal) (X : EReal) (q n : ℕ) : EReal :=
  if n ≤ q then Ideal.exp2 (Ideal.tanh (x n) * cap2 - (Ideal.tanh X * cap2 - ((8 : ℝ) : EReal))) else 0

/-- The reference's capped and masked score of key `n` in the row of query `q`. -/
def sR (x : ℕ → EReal) (q n : ℕ) : EReal :=
  if n ≤ q then ((50 : ℝ) : EReal) * Ideal.tanh (x n) else ⊥

/-- The weight of key `n` as a real, zero on a masked key. -/
def wm (x : ℕ → EReal) (X : EReal) (q n : ℕ) : ℝ := if n ≤ q then w (x n) X else 0

/-- The kernel's masked weight is 256 times the real weight. -/
theorem pK_eq (x : ℕ → EReal) (X : EReal) (q n : ℕ) : pK x X q n = ((wm x X q n * 256 : ℝ) : EReal) := by
  unfold pK wm
  split
  · exact exp2_eq _ _
  · simp

/-- The reference's masked exponential is the real weight. -/
theorem eR_eq (x : ℕ → EReal) (X : EReal) (q n : ℕ) :
    Ideal.exp (sR x q n - ((50 : ℝ) : EReal) * Ideal.tanh X) = ((wm x X q n : ℝ) : EReal) := by
  unfold sR wm
  split
  · exact exp_eq _ _
  · rw [exp_bot]; simp

/-- `X` is the largest of the row's allowed scores. -/
def IsTop (x : ℕ → EReal) (q : ℕ) (X : EReal) : Prop := ∀ b, X ≤ b ↔ ∀ n, n ≤ q → x n ≤ b

/-- The largest score is the score of some key the row sees. -/
theorem IsTop.attained {x : ℕ → EReal} {q : ℕ} {X : EReal} (h : IsTop x q X) : ∃ n ≤ q, x n = X := by
  obtain ⟨n, hn, hmax⟩ := Finset.exists_max_image (Finset.range (q + 1)) x ⟨0, by simp⟩
  refine ⟨n, by simpa [Nat.lt_succ_iff] using hn, le_antisymm ((h X).mp le_rfl n (by simpa [Nat.lt_succ_iff] using hn)) ?_⟩
  exact (h _).mpr fun k hk => hmax k (by simpa [Nat.lt_succ_iff] using hk)

/-- The largest capped score is the capped largest score. -/
theorem fold_sR {x : ℕ → EReal} {q N : ℕ} {X : EReal} (hq : q < N) (h : IsTop x q X) :
    (Finset.univ : Finset (Fin N)).fold max ⊥ (fun k => sR x q k.val) = ((50 : ℝ) : EReal) * Ideal.tanh X := by
  obtain ⟨n, hn, hx⟩ := h.attained
  apply le_antisymm
  · rw [Finset.fold_max_le]
    refine ⟨bot_le, fun k _ => ?_⟩
    unfold sR
    split
    · rename_i hk
      have hm := tanhR_mono ((h X).mp le_rfl k.val hk)
      rw [tanh_eq, tanh_eq, ← EReal.coe_mul, ← EReal.coe_mul, EReal.coe_le_coe_iff]
      linarith
    · exact bot_le
  · rw [Finset.le_fold_max]
    refine Or.inr ⟨⟨n, lt_of_le_of_lt hn hq⟩, Finset.mem_univ _, ?_⟩
    simp [sR, hn, hx]

/-- A sum of reals is the same sum on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over all the keys is the sum over a prefix past which every term is zero. -/
theorem sum_prefix (f : ℕ → EReal) {B N : ℕ} (hBN : B ≤ N) (h0 : ∀ n, B ≤ n → f n = 0) :
    ∑ k : Fin N, f k.val = ∑ n ∈ Finset.range B, f n := by
  rw [Fin.sum_univ_eq_sum_range f N]
  symm
  apply Finset.sum_subset (Finset.range_subset_range.mpr hBN)
  intro n _ hn
  exact h0 n (by simpa using hn)

/-- One query row: the kernel's result is the reference's. `x` are the scores before the cap, `v` a column of the
    values, `B` the number of keys the kernel visits, `N` all of them. -/
theorem attn_eq (x v : ℕ → EReal) (vs X : EReal) {q B N : ℕ} (hqB : q < B) (hBN : B ≤ N) (hX : IsTop x q X) :
    (∑ n ∈ Finset.range B, clip (pK x X q n) * v n)
        * Ideal.div (vs * ((256⁻¹ : ℝ) : EReal)) ((∑ n ∈ Finset.range B, pK x X q n) * ((256⁻¹ : ℝ) : EReal))
      = Ideal.div ((∑ k : Fin N, v k.val * clip (Ideal.exp (sR x q k.val
            - (Finset.univ : Finset (Fin N)).fold max ⊥ (fun k => sR x q k.val)) * ((256 : ℝ) : EReal)))
            * (vs * ((256⁻¹ : ℝ) : EReal)))
          (∑ k : Fin N, Ideal.exp (sR x q k.val - (Finset.univ : Finset (Fin N)).fold max ⊥ (fun k => sR x q k.val))) := by
  have hM := fold_sR (lt_of_lt_of_le hqB hBN) hX
  simp only [hM, eR_eq, pK_eq, ← EReal.coe_mul]
  have hz : ∀ n, B ≤ n → wm x X q n = 0 := fun n hn => if_neg (by omega)
  rw [sum_prefix (fun n => ((wm x X q n : ℝ) : EReal)) hBN (fun n hn => by rw [hz n hn]; rfl),
    sum_prefix (fun n => v n * clip ((wm x X q n * 256 : ℝ) : EReal)) hBN
      (fun n hn => by rw [hz n hn, zero_mul, EReal.coe_zero, clip_zero, mul_zero]),
    ← coe_sum, ← coe_sum, ← EReal.coe_mul]
  have hL : 0 < ∑ n ∈ Finset.range B, wm x X q n := by
    apply Finset.sum_pos'
    · intro n _; unfold wm; split
      · exact (w_pos _ _).le
      · exact le_rfl
    · exact ⟨0, Finset.mem_range.mpr (by omega), by simp [wm, w_pos]⟩
  have hS : (∑ n ∈ Finset.range B, wm x X q n * 256) * (256⁻¹ : ℝ) = ∑ n ∈ Finset.range B, wm x X q n := by
    rw [← Finset.sum_mul]; field_simp
  rw [hS]
  have hne : (((∑ n ∈ Finset.range B, wm x X q n : ℝ)) : EReal) ≠ 0 := by
    rw [Ne, EReal.coe_eq_zero]; exact hL.ne'
  unfold Ideal.div
  have hA : ∑ n ∈ Finset.range B, clip ((wm x X q n * 256 : ℝ) : EReal) * v n
      = ∑ n ∈ Finset.range B, v n * clip ((wm x X q n * 256 : ℝ) : EReal) :=
    Finset.sum_congr rfl fun n _ => EReal.mul_comm _ _
  rw [if_neg hne, if_neg hne, hA, ← mul_assoc]

end Cert.Softmax

end
-- ==== Proof.Elem.lean ====
/- The slabs' operations on the extended reals, element by element. -/
module

public import proofs.«01_k».proof.Proof.Body
public import proofs.«01_k».proof.Proof.Consts
public import proofs.«01_k».proof.Proof.Softmax
public import Idealize.ShloMosaic.Lib.WordCmp

@[expose] public section

set_option maxRecDepth 16384

noncomputable section

namespace Cert.KernelIdeal.Slab

open Cert.KernelIdeal Cert.KernelIdeal.Gen Idealize.ShloMosaic Cert.Softmax

/-- Column `l` of the first tile of a chunk. -/
def colLo (l : Fin 128) : Fin 256 := ⟨l.val, by omega⟩

/-- Column `l` of the second tile of a chunk. -/
def colHi (l : Fin 128) : Fin 256 := ⟨128 + l.val, by omega⟩

/-- An element of a scaled tile of scores is the score at that place, times the scale. -/
theorem tile_apply (o j : ℕ) (h : S1024x256.Slices ![o, j] S128x128) (c : Ideal .f32) (s : FVec Ideal S1024x256 .f32)
    (r l : Fin 128) (R : Fin 1024) (C : Fin 256) (hR : R.val = o + r.val) (hC : C.val = j + l.val) :
    tile o j h c s (ix2 r l) = s (ix2 R C) * c := by
  refine congrArg (· * c) (congrArg s (funext fun a => ?_))
  match a with
  | ⟨0, _⟩ => exact Fin.ext hR.symm
  | ⟨1, _⟩ => exact Fin.ext hC.symm

/-- The first tile of a chunk, for the rows of one head: score times scale. -/
theorem lo_apply (c : Fin 8 → Ideal .f32) (s : FVec Ideal S1024x256 .f32) (g : Fin 8) (r l : Fin 128) :
    lo c s g (ix2 r l) = s (ix2 (row g r) (colLo l)) * c g := by
  fin_cases g
  all_goals exact tile_apply _ _ _ _ s r l _ _ rfl (Nat.zero_add _).symm

/-- The second tile of a chunk, for the rows of one head: score times scale. -/
theorem hi_apply (c : Fin 8 → Ideal .f32) (s : FVec Ideal S1024x256 .f32) (g : Fin 8) (r l : Fin 128) :
    hi c s g (ix2 r l) = s (ix2 (row g r) (colHi l)) * c g := by
  fin_cases g
  all_goals exact tile_apply _ _ _ _ s r l _ _ rfl rfl

/-- A step of the running maximum, at one element: the larger of the old one and the two new scores. -/
theorem maxOf_apply (m a b : FVec Ideal S128x128 .f32) (r l : Fin 128) :
    maxOf m a b (ix2 r l) = max (max (m (ix2 r l)) (a (ix2 r l))) (b (ix2 r l)) := by
  unfold maxOf
  rw [shapeCast_self]
  rfl

/-- A step of the running sum, at one element: the old sum plus the two new terms. -/
theorem sumOf_apply (m a b : FVec Ideal S128x128 .f32) (r l : Fin 128) :
    sumOf m a b (ix2 r l) = m (ix2 r l) + a (ix2 r l) + b (ix2 r l) := by
  unfold sumOf
  rw [shapeCast_self]
  rfl

/-- A probability at one element: two to the power of the capped score less the shift. -/
theorem prob_apply (x m : FVec Ideal S128x128 .f32) (r l : Fin 128) :
    prob x m (ix2 r l) = Ideal.exp2 (Ideal.tanh (x (ix2 r l)) * cap2 - m (ix2 r l)) := by
  have h : (Named.named κ "softcap_log2e" 0x429044FE#32 : Ideal .f32) = cap2 :=
    IdealRules.named_const.ideal_named_scalar _ _ _ _ rfl
  rw [← h]
  rfl

/-- A masked score is the score where the mask is set, minus infinity elsewhere. -/
theorem seen_apply (k : IVec S128x128 1) (x : FVec Ideal S128x128 .f32) (r l : Fin 128) :
    seen k x (ix2 r l) = if k (ix2 r l) = 1#1 then x (ix2 r l) else ⊥ := by
  unfold seen
  pointwise [Consts.ofBits_bot]
  rfl

/-- A masked probability is the probability where the mask is set, zero elsewhere. -/
theorem kept_apply (k : IVec S128x128 1) (x : FVec Ideal S128x128 .f32) (r l : Fin 128) :
    kept k x (ix2 r l) = if k (ix2 r l) = 1#1 then x (ix2 r l) else 0 := by
  unfold kept
  pointwise []
  rfl

/-- The code of a probability is the probability clipped. -/
theorem code_apply (p : FVec Ideal S128x128 .f32) (r l : Fin 128) : code p (ix2 r l) = clip (p (ix2 r l)) := by
  unfold code clip
  pointwise [Consts.ofBits_448, Consts.ofBits_neg448]

/-- The first half of a chunk of codes comes from the first tile. -/
theorem codes_lo (a b : FVec Ideal S128x128 .f32) (r l : Fin 128) : codes a b (ix2 r (colLo l)) = clip (a (ix2 r l)) := by
  rw [← code_apply]
  unfold codes
  pointwise [colLo]

/-- The second half of a chunk of codes comes from the second tile. -/
theorem codes_hi (a b : FVec Ideal S128x128 .f32) (r l : Fin 128) : codes a b (ix2 r (colHi l)) = clip (b (ix2 r l)) := by
  rw [← code_apply]
  unfold codes
  pointwise [colHi]

/-- A score before scaling: the product of a query with a key of the chunk. -/
theorem scores_apply (kc : Vec Ideal S1x256x256 .fp8e4m3) (q : Vec Ideal S1024x256 .fp8e4m3) (R : Fin 1024) (n : Fin 256) :
    scores kc q (ix2 R n) = ∑ d : Fin 256, q (ix2 R d) * kc (ix3 0 n d) := by
  unfold scores
  pointwise []

/-- Adding to the running result, at one element. -/
theorem plus_apply (o w : FVec Ideal S1024x256 .f32) (R : Fin 1024) (d : Fin 256) :
    plus o w (ix2 R d) = o (ix2 R d) + w (ix2 R d) := by
  unfold plus
  rw [shapeCast_self]
  rfl

/-- The codes of the eight heads, stacked: the rows of a head hold the codes of that head. -/
theorem stack_apply (w : Fin 8 → FVec Ideal S128x256 .fp8e4m3) (g : Fin 8) (r : Fin 128) (n : Fin 256) :
    stack w (ix2 (row g r) n) = w g (ix2 r n) := by
  unfold stack
  fin_cases g
  all_goals
    pointwise [row]
    try
      repeat first | rw [dif_neg (by omega)] | rw [dif_pos (by omega)]
      exact congrArg (fun k : Fin 128 => w _ (ix2 k n)) (Fin.ext (by show _ = r.val; dsimp only; omega))

/-- What a chunk adds to the result: the sum over its keys of code times value. -/
theorem attend_apply (w : Fin 8 → FVec Ideal S128x256 .fp8e4m3) (vc : Vec Ideal S1x256x256 .fp8e4m3) (g : Fin 8) (r : Fin 128) (d : Fin 256) :
    attend w vc (ix2 (row g r) d) = ∑ n : Fin 256, w g (ix2 r n) * vc (ix3 0 n d) := by
  unfold attend
  pointwise [stack_apply]

/-- What the kernel subtracts in the exponents: from the largest score of the row, under the soft cap, less eight. -/
theorem shift_apply (M : Vec Ideal S1024x128 .f32) (R : Fin 1024) (l : Fin 128) :
    k0_pay489 M (ix2 R l) = Ideal.tanh ((Finset.univ : Finset (Fin 128)).fold max ⊥ fun k => M (ix2 R k)) * cap2 - ((8 : ℝ) : EReal) := by
  have h : (Named.named κ "softcap_log2e" 0x429044FE#32 : Ideal .f32) = cap2 :=
    IdealRules.named_const.ideal_named_scalar _ _ _ _ rfl
  rw [← h]
  unfold k0_pay489
  pointwise [Consts.ofBits_bot, Consts.ofBits_8]

/-- What a row's result is multiplied by. -/
theorem ratio_apply (L : Vec Ideal S1024x128 .f32) (vs : Ideal .f32) (R : Fin 1024) :
    k0_pay549 L vs (ix2 R 0) = Ideal.div (vs * ((256⁻¹ : ℝ) : EReal)) ((∑ k : Fin 128, L (ix2 R k)) * ((256⁻¹ : ℝ) : EReal)) := by
  unfold k0_pay549
  pointwise [Consts.ofBits_inv256]

/-- The row of queries, among all the rows, that row `r` of a grid point's slabs is. -/
def query (i : grid0.Coords) (r : Fin 128) : ℕ := 128 * (qi i).val + r.val

/-- Key positions in the last chunk, as the masks compare them. -/
theorem keyPos (i : grid0.Coords) (r l : Fin 128) :
    k0_pay468 (BitVec.ofNat 32 (i 2).val) 128#32 (ix2 r l) = BitVec.ofNat 32 (256 * full i + l.val) := by
  have h : ∀ q : Fin 256, k0_pay468 (BitVec.ofNat 32 q.val) 128#32 (ix2 0 0) = BitVec.ofNat 32 (256 * (q.val / 2)) := by
    decide +kernel
  have e : k0_pay468 (BitVec.ofNat 32 (i 2).val) 128#32 (ix2 r l)
      = k0_pay468 (BitVec.ofNat 32 (i 2).val) 128#32 (ix2 0 0) + BitVec.ofNat 32 l.val := by
    unfold k0_pay468
    pointwise []
    exact congrArg (· + _) (BitVec.add_zero _).symm
  rw [e, BitVec.ofNat_add]
  exact congrArg (· + _) (h (qi i))

/-- Query positions, as the masks compare them. -/
theorem queryPos (i : grid0.Coords) (r l : Fin 128) :
    k0_pay467 (BitVec.ofNat 32 (i 2).val) (ix2 r l) = BitVec.ofNat 32 (query i r) := by
  have h : ∀ q : Fin 256, k0_pay467 (BitVec.ofNat 32 q.val) (ix2 0 0) = BitVec.ofNat 32 (128 * q.val) := by
    decide +kernel
  have e : k0_pay467 (BitVec.ofNat 32 (i 2).val) (ix2 r l)
      = k0_pay467 (BitVec.ofNat 32 (i 2).val) (ix2 0 0) + BitVec.ofNat 32 r.val := by
    unfold k0_pay467
    pointwise []
    exact congrArg (· + _) (BitVec.add_zero _).symm
  rw [e, query, BitVec.ofNat_add]
  exact congrArg (· + _) (h (qi i))

/-- The mask of the first tile of the last chunk is set where the key is not after the query. -/
theorem maskLo_apply (i : grid0.Coords) (r l : Fin 128) :
    maskLo i (ix2 r l) = 1#1 ↔ 256 * full i + l.val ≤ query i r := by
  have hf := full_lt i
  have hq : (qi i).val < 256 := (qi i).isLt
  have e : maskLo i (ix2 r l) = IntOp.cmpi .sle (k0_pay468 (BitVec.ofNat 32 (i 2).val) 128#32 (ix2 r l) + 0#32)
      (k0_pay467 (BitVec.ofNat 32 (i 2).val) (ix2 r l)) := rfl
  rw [e, keyPos, queryPos, BitVec.add_zero]
  exact WordCmp.cmpi_sle_ofNat_eq_one_iff (by show _ < 2 ^ 31; omega) (by unfold query; show _ < 2 ^ 31; omega)

/-- The mask of the second tile of the last chunk is set where the key is not after the query. -/
theorem maskHi_apply (i : grid0.Coords) (r l : Fin 128) :
    maskHi i (ix2 r l) = 1#1 ↔ 256 * full i + (128 + l.val) ≤ query i r := by
  have hf := full_lt i
  have hq : (qi i).val < 256 := (qi i).isLt
  have e : maskHi i (ix2 r l) = IntOp.cmpi .sle (k0_pay468 (BitVec.ofNat 32 (i 2).val) 128#32 (ix2 r l) + BitVec.ofNat 32 128)
      (k0_pay467 (BitVec.ofNat 32 (i 2).val) (ix2 r l)) := rfl
  rw [e, keyPos, queryPos, ← BitVec.ofNat_add, show 256 * full i + l.val + 128 = 256 * full i + (128 + l.val) by omega]
  exact WordCmp.cmpi_sle_ofNat_eq_one_iff (by show _ < 2 ^ 31; omega) (by unfold query; show _ < 2 ^ 31; omega)

end Cert.KernelIdeal.Slab

end
-- ==== Proof.Rows.lean ====
/- One row of queries on the extended reals: what the passes over the chunks compute for it, over all the keys at once. -/
module

public import proofs.«01_k».proof.Proof.Elem

@[expose] public section

set_option maxRecDepth 16384

noncomputable section

namespace Cert.KernelIdeal.Slab

open Cert.KernelIdeal Cert.KernelIdeal.Gen Idealize.ShloMosaic Cert.Softmax

/-- A sum over the first chunks and one chunk more. -/
theorem sum_chunk (f : ℕ → EReal) (k : ℕ) : ∑ n ∈ Finset.range (256 * (k + 1)), f n
    = ∑ n ∈ Finset.range (256 * k), f n + ∑ n : Fin 256, f (256 * k + n.val) := by
  rw [show 256 * (k + 1) = 256 * k + 256 by omega, Finset.sum_range_add, Finset.sum_range (fun n => f (256 * k + n))]

/-- A sum over a chunk is the sums over its two tiles. -/
theorem sum_tiles (f : ℕ → EReal) (a : ℕ) : ∑ n : Fin 256, f (a + n.val)
    = ∑ l : Fin 128, f (a + l.val) + ∑ l : Fin 128, f (a + (128 + l.val)) := by
  rw [← Finset.sum_range (fun n => f (a + n)), show 256 = 128 + 128 by rfl, Finset.sum_range_add,
    Finset.sum_range (fun n => f (a + n)), Finset.sum_range (fun n => f (a + (128 + n)))]

section Row

variable (cs : Fin 8 → Ideal .f32) (q : Vec Ideal S1024x256 .fp8e4m3) (K V : ℕ → Vec Ideal S1x256x256 .fp8e4m3)
  (m : Fin 8 → FVec Ideal S128x128 .f32) (g : Fin 8) (r : Fin 128)

/-- The score of key `n`, for row `r` of slab `g`. -/
def score (n : ℕ) : EReal :=
  (∑ d : Fin 256, q (ix2 (row g r) d) * K (n / 256) (ix3 0 ⟨n % 256, Nat.mod_lt _ (by decide)⟩ d)) * cs g

/-- Element `d` of the value of key `n`. -/
def value (d : Fin 256) (n : ℕ) : EReal := V (n / 256) (ix3 0 ⟨n % 256, Nat.mod_lt _ (by decide)⟩ d)

/-- The value of a key is found in its chunk. -/
theorem value_chunk (d : Fin 256) (k : ℕ) (n : Fin 256) : value V d (256 * k + n.val) = V k (ix3 0 n d) := by
  have e1 : (256 * k + n.val) / 256 = k := by omega
  have e2 : (⟨(256 * k + n.val) % 256, Nat.mod_lt _ (by decide)⟩ : Fin 256) = n := Fin.ext (by show (256 * k + n.val) % 256 = n.val; omega)
  unfold value
  rw [e2, e1]

/-- The score of a key is found in its chunk. -/
theorem score_chunk (k : ℕ) (n : Fin 256) :
    scores (K k) q (ix2 (row g r) n) * cs g = score cs q K g r (256 * k + n.val) := by
  have e1 : (256 * k + n.val) / 256 = k := by omega
  have e2 : (⟨(256 * k + n.val) % 256, Nat.mod_lt _ (by decide)⟩ : Fin 256) = n := Fin.ext (by show (256 * k + n.val) % 256 = n.val; omega)
  unfold score
  rw [scores_apply, e2, e1]

/-- The first tile of a chunk holds the scores of the first 128 keys of the chunk. -/
theorem lo_score (k : ℕ) (l : Fin 128) : lo cs (scores (K k) q) g (ix2 r l) = score cs q K g r (256 * k + l.val) :=
  (lo_apply cs _ g r l).trans (score_chunk cs q K g r k (colLo l))

/-- The second tile of a chunk holds the scores of the other 128 keys of the chunk. -/
theorem hi_score (k : ℕ) (l : Fin 128) : hi cs (scores (K k) q) g (ix2 r l) = score cs q K g r (256 * k + (128 + l.val)) :=
  (hi_apply cs _ g r l).trans (score_chunk cs q K g r k (colHi l))

/-- Lane `l` of the running maxima bounds the scores of the keys that fall in the lane. -/
theorem maxAt_le (k : ℕ) (l : Fin 128) (b : EReal) :
    maxAt cs q K k g (ix2 r l) ≤ b ↔ ∀ n, n < 256 * k → n % 128 = l.val → score cs q K g r n ≤ b := by
  induction k with
  | zero =>
    have e : maxAt cs q K 0 g (ix2 r l) = (⊥ : EReal) := Consts.ofBits_bot
    rw [e]
    exact ⟨fun _ n hn => absurd hn (by omega), fun _ => bot_le⟩
  | succ k ih =>
    have e : maxAt cs q K (k + 1) g (ix2 r l) = max (max (maxAt cs q K k g (ix2 r l)) (score cs q K g r (256 * k + l.val)))
        (score cs q K g r (256 * k + (128 + l.val))) := by
      rw [← lo_score, ← hi_score, ← maxOf_apply]
      rfl
    rw [e, max_le_iff, max_le_iff, ih]
    constructor
    · rintro ⟨⟨h1, h2⟩, h3⟩ n hn hl
      by_cases c1 : n < 256 * k
      · exact h1 n c1 hl
      · have hl' := l.isLt
        rcases (by omega : n = 256 * k + l.val ∨ n = 256 * k + (128 + l.val)) with rfl | rfl
        · exact h2
        · exact h3
    · intro h
      have hl' := l.isLt
      exact ⟨⟨fun n hn hl => h n (by omega) hl, h _ (by omega) (by omega)⟩, h _ (by omega) (by omega)⟩

variable (i : grid0.Coords)

/-- The last chunk's keys count as far as the row sees them. -/
theorem lastMax_le (l : Fin 128) (b : EReal) :
    lastMax cs (maskLo i) (maskHi i) (scores (K (full i)) q) g (maxAt cs q K (full i) g) (ix2 r l) ≤ b
      ↔ ∀ n, n % 128 = l.val → n ≤ query i r → score cs q K g r n ≤ b := by
  have hq : query i r < 256 * full i + 256 := by unfold query full; omega
  have hq' : 256 * full i ≤ query i r := by unfold query full; omega
  have hl' := l.isLt
  unfold lastMax
  rw [maxOf_apply, seen_apply, seen_apply, lo_score, hi_score, max_le_iff, max_le_iff, maxAt_le]
  simp only [maskLo_apply, maskHi_apply]
  constructor
  · rintro ⟨⟨h1, h2⟩, h3⟩ n hl hn
    by_cases c1 : n < 256 * full i
    · exact h1 n c1 hl
    · rcases (by omega : n = 256 * full i + l.val ∨ n = 256 * full i + (128 + l.val)) with rfl | rfl
      · rwa [if_pos hn] at h2
      · rwa [if_pos hn] at h3
  · intro h
    refine ⟨⟨fun n hn hl => h n hl (by omega), ?_⟩, ?_⟩
    · split_ifs with c
      · exact h _ (by omega) c
      · exact bot_le
    · split_ifs with c
      · exact h _ (by omega) c
      · exact bot_le

/-- The chunks before the last one are all seen. -/
theorem seen_before (n : ℕ) (hn : n < 256 * full i) : n ≤ query i r := by unfold query full at *; omega

/-- The row's largest score: the largest of its lanes. -/
def rowMax : EReal := (Finset.univ : Finset (Fin 128)).fold max ⊥
  fun l => lastMax cs (maskLo i) (maskHi i) (scores (K (full i)) q) g (maxAt cs q K (full i) g) (ix2 r l)

/-- The row's maximum is the largest of the scores of the keys the row sees. -/
theorem isTop_rowMax : IsTop (score cs q K g r) (query i r) (rowMax cs q K g r i) := by
  intro b
  unfold rowMax
  rw [Finset.fold_max_le]
  constructor
  · rintro ⟨_, h⟩ n hn
    exact (lastMax_le cs q K g r i ⟨n % 128, Nat.mod_lt _ (by decide)⟩ b).1 (h _ (Finset.mem_univ _)) n rfl hn
  · intro h
    exact ⟨bot_le, fun l _ => (lastMax_le cs q K g r i l b).2 fun n _ hn => h n hn⟩

/-- The probability of key `n`, before the division, when `μ` is subtracted in the exponent. -/
def power (μ : EReal) (n : ℕ) : EReal := Ideal.exp2 (Ideal.tanh (score cs q K g r n) * cap2 - μ)

variable (μ : EReal) (hm : ∀ l, m g (ix2 r l) = μ)
include hm

/-- The first tile of probabilities holds those of the first 128 keys of the chunk. -/
theorem prob_lo (k : ℕ) (l : Fin 128) :
    prob (lo cs (scores (K k) q) g) (m g) (ix2 r l) = power cs q K g r μ (256 * k + l.val) := by
  rw [prob_apply, lo_score, hm]
  rfl

/-- The second tile of probabilities holds those of the other 128 keys of the chunk. -/
theorem prob_hi (k : ℕ) (l : Fin 128) :
    prob (hi cs (scores (K k) q) g) (m g) (ix2 r l) = power cs q K g r μ (256 * k + (128 + l.val)) := by
  rw [prob_apply, hi_score, hm]
  rfl

/-- The lanes of the running sums add up to the sum over the keys so far. -/
theorem sumAt_sum (k : ℕ) : ∑ l : Fin 128, sumAt cs q K m k g (ix2 r l) = ∑ n ∈ Finset.range (256 * k), power cs q K g r μ n := by
  induction k with
  | zero =>
    have e : ∀ l, sumAt cs q K m 0 g (ix2 r l) = (0 : EReal) := fun l => Ideal.ofBits_zero_f32
    simp [e]
  | succ k ih =>
    have e : ∀ l, sumAt cs q K m (k + 1) g (ix2 r l) = sumAt cs q K m k g (ix2 r l) + power cs q K g r μ (256 * k + l.val)
        + power cs q K g r μ (256 * k + (128 + l.val)) := by
      intro l
      rw [← prob_lo cs q K m g r μ hm, ← prob_hi cs q K m g r μ hm, ← sumOf_apply]
      rfl
    simp only [e]
    rw [Finset.sum_add_distrib, Finset.sum_add_distrib, ih, sum_chunk, sum_tiles, add_assoc]

/-- What chunk `k` adds to the row's result. -/
theorem prodAt_apply (k : ℕ) (d : Fin 256) : prodAt cs q K V m k (ix2 (row g r) d)
    = ∑ n : Fin 256, clip (power cs q K g r μ (256 * k + n.val)) * value V d (256 * k + n.val) := by
  unfold prodAt
  rw [attend_apply]
  refine Finset.sum_congr rfl fun n _ => ?_
  rw [value_chunk]
  refine congrArg (· * _) ?_
  by_cases hn : n.val < 128
  · obtain ⟨l, rfl⟩ : ∃ l, n = colLo l := ⟨⟨n.val, hn⟩, rfl⟩
    refine (codes_lo _ _ r l).trans ?_
    rw [prob_lo cs q K m g r μ hm]
    rfl
  · obtain ⟨l, rfl⟩ : ∃ l, n = colHi l := ⟨⟨n.val - 128, by omega⟩, Fin.ext (by show n.val = 128 + (n.val - 128); omega)⟩
    refine (codes_hi _ _ r l).trans ?_
    rw [prob_hi cs q K m g r μ hm]
    rfl

/-- The row's result after the trips of the main loop. -/
theorem outAt_apply (k : ℕ) (d : Fin 256) : outAt cs q K V m k (ix2 (row g r) d)
    = ∑ n ∈ Finset.range (256 * (4 * k)), clip (power cs q K g r μ n) * value V d n := by
  induction k with
  | zero =>
    have e : outAt cs q K V m 0 (ix2 (row g r) d) = (0 : EReal) := Ideal.ofBits_zero_f32
    simp [e]
  | succ k ih =>
    have e : outAt cs q K V m (k + 1) (ix2 (row g r) d) = outAt cs q K V m k (ix2 (row g r) d)
        + (prodAt cs q K V m (4 * k) (ix2 (row g r) d) + prodAt cs q K V m (4 * k + 1) (ix2 (row g r) d)
          + prodAt cs q K V m (4 * k + 2) (ix2 (row g r) d) + prodAt cs q K V m (4 * k + 3) (ix2 (row g r) d)) :=
      plus_apply _ _ _ _
    rw [e, ih, show 4 * (k + 1) = 4 * k + 1 + 1 + 1 + 1 by omega, sum_chunk, sum_chunk, sum_chunk, sum_chunk]
    simp only [prodAt_apply cs q K V m g r μ hm, add_assoc]

/-- The row's result after the loops. -/
theorem outTail_apply (a j : ℕ) (d : Fin 256) : outTail cs q K V m a j (ix2 (row g r) d)
    = ∑ n ∈ Finset.range (256 * (4 * a + j)), clip (power cs q K g r μ n) * value V d n := by
  induction j with
  | zero => exact outAt_apply cs q K V m g r μ hm a d
  | succ j ih =>
    have e : outTail cs q K V m a (j + 1) (ix2 (row g r) d) = outTail cs q K V m a j (ix2 (row g r) d)
        + prodAt cs q K V m (4 * a + j) (ix2 (row g r) d) := plus_apply _ _ _ _
    rw [e, ih, ← Nat.add_assoc, sum_chunk, prodAt_apply cs q K V m g r μ hm]

/-- The probability of key `n` as far as the row sees it. -/
theorem kept_lo (l : Fin 128) : kept (maskLo i) (prob (lo cs (scores (K (full i)) q) g) (m g)) (ix2 r l)
    = if 256 * full i + l.val ≤ query i r then power cs q K g r μ (256 * full i + l.val) else 0 := by
  rw [kept_apply, prob_lo cs q K m g r μ hm]
  simp only [maskLo_apply]

/-- The same in the second tile. -/
theorem kept_hi (l : Fin 128) : kept (maskHi i) (prob (hi cs (scores (K (full i)) q) g) (m g)) (ix2 r l)
    = if 256 * full i + (128 + l.val) ≤ query i r then power cs q K g r μ (256 * full i + (128 + l.val)) else 0 := by
  rw [kept_apply, prob_hi cs q K m g r μ hm]
  simp only [maskHi_apply]

/-- The lanes of the sums add up to the sum over the keys the row sees. -/
theorem lastSum_sum : ∑ l : Fin 128, lastSum cs (maskLo i) (maskHi i) m (scores (K (full i)) q) g (sumAt cs q K m (full i) g) (ix2 r l)
    = ∑ n ∈ Finset.range (256 * (full i + 1)), if n ≤ query i r then power cs q K g r μ n else 0 := by
  have e : ∀ l, lastSum cs (maskLo i) (maskHi i) m (scores (K (full i)) q) g (sumAt cs q K m (full i) g) (ix2 r l)
      = sumAt cs q K m (full i) g (ix2 r l)
        + (if 256 * full i + l.val ≤ query i r then power cs q K g r μ (256 * full i + l.val) else 0)
        + (if 256 * full i + (128 + l.val) ≤ query i r then power cs q K g r μ (256 * full i + (128 + l.val)) else 0) := by
    intro l
    rw [← kept_lo cs q K m g r i μ hm, ← kept_hi cs q K m g r i μ hm]
    exact sumOf_apply _ _ _ r l
  simp only [e]
  rw [Finset.sum_add_distrib, Finset.sum_add_distrib, sumAt_sum cs q K m g r μ hm, sum_chunk,
    sum_tiles (fun n => if n ≤ query i r then power cs q K g r μ n else 0), add_assoc]
  refine congrArg (· + _) (Finset.sum_congr rfl fun n hn => ?_)
  rw [if_pos (seen_before r i n (Finset.mem_range.1 hn))]

/-- The row's result over the keys it sees. -/
theorem lastOut_sum (d : Fin 256) :
    plus (outTail cs q K V m (full i / 4) (full i % 4)) (attend (lastCodes cs (maskLo i) (maskHi i) m (scores (K (full i)) q)) (V (full i)))
        (ix2 (row g r) d)
      = ∑ n ∈ Finset.range (256 * (full i + 1)), clip (if n ≤ query i r then power cs q K g r μ n else 0) * value V d n := by
  rw [plus_apply, outTail_apply cs q K V m g r μ hm, show 4 * (full i / 4) + full i % 4 = full i by omega, sum_chunk, attend_apply]
  congr 1
  · refine Finset.sum_congr rfl fun n hn => ?_
    rw [if_pos (seen_before r i n (Finset.mem_range.1 hn))]
  · refine Finset.sum_congr rfl fun n _ => ?_
    rw [value_chunk]
    refine congrArg (· * _) ?_
    by_cases hn : n.val < 128
    · obtain ⟨l, rfl⟩ : ∃ l, n = colLo l := ⟨⟨n.val, hn⟩, rfl⟩
      refine (codes_lo _ _ r l).trans ?_
      rw [kept_lo cs q K m g r i μ hm]
      rfl
    · obtain ⟨l, rfl⟩ : ∃ l, n = colHi l := ⟨⟨n.val - 128, by omega⟩, Fin.ext (by show n.val = 128 + (n.val - 128); omega)⟩
      refine (codes_hi _ _ r l).trans ?_
      rw [kept_hi cs q K m g r i μ hm]
      rfl

end Row

end Cert.KernelIdeal.Slab

end
-- ==== Proof.Point.lean ====
/- What the body of the kernel has computed at a grid point, on the extended reals: the probabilities and the result of a row. -/
module

public import proofs.«01_k».proof.Proof.Rows

@[expose] public section

set_option maxRecDepth 65536

noncomputable section

namespace Cert.KernelIdeal.Slab

open Cert.KernelIdeal Cert.KernelIdeal.Gen Idealize.ShloMosaic Cert.Softmax

variable (c : Dev nD) (i : grid0.Coords) (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x128x2048 .fp8e4m3) (harg6 : arg6.IsWhole) (arg7 : Memref sig .tc .vmem S1x32768x256 .fp8e4m3) (harg7 : arg7.IsWhole) (arg8 : Memref sig .tc .vmem S1x32768x256 .fp8e4m3) (harg8 : arg8.IsWhole) (arg9 : Memref sig .tc .vmem S1x128x2048 .bf16) (harg9 : arg9.IsWhole) (arg10 : Memref sig .tc .vmem S1024x256 .fp8e4m3) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x256 .f32) (harg13 : arg13.IsWhole)   (x0 : Vec Ideal S16 .f32) (x1 : Vec Ideal S2 .f32) (x2 : Vec Ideal S2 .f32) (x3 : Vec Ideal S1x128x2048 .fp8e4m3) (x4 : Vec Ideal S1x32768x256 .fp8e4m3) (x5 : Vec Ideal S1x32768x256 .fp8e4m3)

/-- The last chunk of the keys or of the values. -/
theorem chunk_last {sig : RefSig} {κ : Kind} {sp : Space} (v : View sig κ sp S1x32768x256 .fp8e4m3) (f : v.ty.Contents (Elt Ideal)) :
    chunk v (k0_off5 i) (k0_off5_inb i) f = chunkAt v f (full i) :=
  chunk_eq _ _ _ _ _ (off5 i) (full_lt i)

/-- The scores of a row's keys, at this point. -/
def scoreOf (g : Fin 8) (r : Fin 128) : ℕ → EReal :=
  score (heads c i arg3 harg3 arg4 harg4 x0 x1) (queries arg10.view (arg10.view.writes (Elt Ideal) arg10.view.junk (kernelRun0_A.sl.HS0_8 c arg6 harg6 x3))) (chunkAt arg7.view (harg7.unread x4)) g r

/-- The largest score of a row, at this point. -/
def topOf (g : Fin 8) (r : Fin 128) : EReal :=
  rowMax (heads c i arg3 harg3 arg4 harg4 x0 x1) (queries arg10.view (arg10.view.writes (Elt Ideal) arg10.view.junk (kernelRun0_A.sl.HS0_8 c arg6 harg6 x3))) (chunkAt arg7.view (harg7.unread x4)) g r i

/-- The largest score of a row is indeed the largest over the keys the row sees. -/
theorem isTop_topOf (g : Fin 8) (r : Fin 128) :
    IsTop (scoreOf c i arg3 harg3 arg4 harg4 arg6 harg6 arg7 harg7 arg10 x0 x1 x3 x4 g r) (query i r) (topOf c i arg3 harg3 arg4 harg4 arg6 harg6 arg7 harg7 arg10 x0 x1 x3 x4 g r) :=
  isTop_rowMax (heads c i arg3 harg3 arg4 harg4 x0 x1) (queries arg10.view (arg10.view.writes (Elt Ideal) arg10.view.junk (kernelRun0_A.sl.HS0_8 c arg6 harg6 x3))) (chunkAt arg7.view (harg7.unread x4)) g r i

/-- The maxima of the lanes, after the last chunk. -/
theorem maxima_eq (g : Fin 8) (r l : Fin 128) : kernelRun0_A.sl.v280 c i arg3 harg3 arg4 harg4 arg5 harg5 arg6 harg6 arg7 harg7 arg8 harg8 arg9 harg9 arg10 harg10 arg11 harg11 arg12 harg12 arg13 harg13 x0 x1 x3 x4 (ix2 (row g r) l)
    = lastMax (heads c i arg3 harg3 arg4 harg4 x0 x1) (maskLo i) (maskHi i) (scores ((chunkAt arg7.view (harg7.unread x4)) (full i)) (queries arg10.view (arg10.view.writes (Elt Ideal) arg10.view.junk (kernelRun0_A.sl.HS0_8 c arg6 harg6 x3)))) g (maxAt (heads c i arg3 harg3 arg4 harg4 x0 x1) (queries arg10.view (arg10.view.writes (Elt Ideal) arg10.view.junk (kernelRun0_A.sl.HS0_8 c arg6 harg6 x3))) (chunkAt arg7.view (harg7.unread x4)) (full i) g) (ix2 r l) := by
  show whole arg11.view (arg11.view.writes (Elt Ideal) arg11.view.junk (kernelRun0_A.sl.HS1_8 c i arg3 harg3 arg4 harg4 arg5 harg5 arg6 harg6 arg7 harg7 arg8 harg8 arg9 harg9 arg10 harg10 arg11 harg11 arg12 harg12 arg13 harg13 x0 x1 x3 x4)) (ix2 (row g r) l) = _
  rw [whole_apply, lastMax_eq, loads_pieces, maxStores_eq, chunk_last]

/-- What is subtracted in the exponents of a row. -/
theorem shift_eq (g : Fin 8) (r l : Fin 128) :
    (loads arg11.view (shiftBuf c i arg3 harg3 arg4 harg4 arg5 harg5 arg6 harg6 arg7 harg7 arg8 harg8 arg9 harg9 arg10 harg10 arg11 harg11 arg12 harg12 arg13 harg13 x0 x1 x3 x4)) g (ix2 r l) = Ideal.tanh (topOf c i arg3 harg3 arg4 harg4 arg6 harg6 arg7 harg7 arg10 x0 x1 x3 x4 g r) * cap2 - ((8 : ℝ) : EReal) := by
  unfold shiftBuf
  rw [loads_fill, shift_apply]
  simp only [maxima_eq]
  rfl

/-- The sum of a row's probabilities. -/
theorem sums_eq (g : Fin 8) (r : Fin 128) : ∑ l : Fin 128, kernelRun0_A.sl.v652 c i arg3 harg3 arg4 harg4 arg5 harg5 arg6 harg6 arg7 harg7 arg8 harg8 arg9 harg9 arg10 harg10 arg11 harg11 arg12 harg12 arg13 harg13 x0 x1 x3 x4 x5 (ix2 (row g r) l)
    = ∑ n ∈ Finset.range (256 * (full i + 1)), pK (scoreOf c i arg3 harg3 arg4 harg4 arg6 harg6 arg7 harg7 arg10 x0 x1 x3 x4 g r) (topOf c i arg3 harg3 arg4 harg4 arg6 harg6 arg7 harg7 arg10 x0 x1 x3 x4 g r) (query i r) n := by
  have e : ∀ l, kernelRun0_A.sl.v652 c i arg3 harg3 arg4 harg4 arg5 harg5 arg6 harg6 arg7 harg7 arg8 harg8 arg9 harg9 arg10 harg10 arg11 harg11 arg12 harg12 arg13 harg13 x0 x1 x3 x4 x5 (ix2 (row g r) l)
      = lastSum (heads c i arg3 harg3 arg4 harg4 x0 x1) (maskLo i) (maskHi i) (loads arg11.view (shiftBuf c i arg3 harg3 arg4 harg4 arg5 harg5 arg6 harg6 arg7 harg7 arg8 harg8 arg9 harg9 arg10 harg10 arg11 harg11 arg12 harg12 arg13 harg13 x0 x1 x3 x4)) (scores ((chunkAt arg7.view (harg7.unread x4)) (full i)) (queries arg10.view (arg10.view.writes (Elt Ideal) arg10.view.junk (kernelRun0_A.sl.HS0_8 c arg6 harg6 x3)))) g (sumAt (heads c i arg3 harg3 arg4 harg4 x0 x1) (queries arg10.view (arg10.view.writes (Elt Ideal) arg10.view.junk (kernelRun0_A.sl.HS0_8 c arg6 harg6 x3))) (chunkAt arg7.view (harg7.unread x4)) (loads arg11.view (shiftBuf c i arg3 harg3 arg4 harg4 arg5 harg5 arg6 harg6 arg7 harg7 arg8 harg8 arg9 harg9 arg10 harg10 arg11 harg11 arg12 harg12 arg13 harg13 x0 x1 x3 x4)) (full i) g) (ix2 r l) := by
    intro l
    show whole arg12.view (arg12.view.writes (Elt Ideal) arg12.view.junk (kernelRun0_A.sl.HS2_8 c i arg3 harg3 arg4 harg4 arg5 harg5 arg6 harg6 arg7 harg7 arg8 harg8 arg9 harg9 arg10 harg10 arg11 harg11 arg12 harg12 arg13 harg13 x0 x1 x3 x4 x5)) (ix2 (row g r) l) = _
    rw [whole_apply, lastSum_eq, loads_pieces, (afterLoops_eq _ _ _ _ _ _ _ _ _ _ _ _ _ _ _ _ _ _ _ _ _ _ _ _ _ _ _ _ _).1, chunk_last]
  simp only [e]
  exact lastSum_sum (heads c i arg3 harg3 arg4 harg4 x0 x1) (queries arg10.view (arg10.view.writes (Elt Ideal) arg10.view.junk (kernelRun0_A.sl.HS0_8 c arg6 harg6 x3))) (chunkAt arg7.view (harg7.unread x4)) (loads arg11.view (shiftBuf c i arg3 harg3 arg4 harg4 arg5 harg5 arg6 harg6 arg7 harg7 arg8 harg8 arg9 harg9 arg10 harg10 arg11 harg11 arg12 harg12 arg13 harg13 x0 x1 x3 x4)) g r i _ (shift_eq c i arg3 harg3 arg4 harg4 arg5 harg5 arg6 harg6 arg7 harg7 arg8 harg8 arg9 harg9 arg10 harg10 arg11 harg11 arg12 harg12 arg13 harg13 x0 x1 x3 x4 g r)

/-- The result of a row, before the division. -/
theorem outs_eq (g : Fin 8) (r : Fin 128) (d : Fin 256) : outs arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) (ix2 (row g r) d)
    = ∑ n ∈ Finset.range (256 * (full i + 1)),
        clip (pK (scoreOf c i arg3 harg3 arg4 harg4 arg6 harg6 arg7 harg7 arg10 x0 x1 x3 x4 g r) (topOf c i arg3 harg3 arg4 harg4 arg6 harg6 arg7 harg7 arg10 x0 x1 x3 x4 g r) (query i r) n) * value (chunkAt arg8.view (harg8.unread x5)) d n := by
  rw [lastOut_eq, View.writes_append, outs_outPiece, (afterLoops_eq _ _ _ _ _ _ _ _ _ _ _ _ _ _ _ _ _ _ _ _ _ _ _ _ _ _ _ _ _).2, chunk_last, chunk_last]
  exact lastOut_sum (heads c i arg3 harg3 arg4 harg4 x0 x1) (queries arg10.view (arg10.view.writes (Elt Ideal) arg10.view.junk (kernelRun0_A.sl.HS0_8 c arg6 harg6 x3))) (chunkAt arg7.view (harg7.unread x4)) (chunkAt arg8.view (harg8.unread x5)) (loads arg11.view (shiftBuf c i arg3 harg3 arg4 harg4 arg5 harg5 arg6 harg6 arg7 harg7 arg8 harg8 arg9 harg9 arg10 harg10 arg11 harg11 arg12 harg12 arg13 harg13 x0 x1 x3 x4)) g r i _ (shift_eq c i arg3 harg3 arg4 harg4 arg5 harg5 arg6 harg6 arg7 harg7 arg8 harg8 arg9 harg9 arg10 harg10 arg11 harg11 arg12 harg12 arg13 harg13 x0 x1 x3 x4 g r) d

end Cert.KernelIdeal.Slab

end
-- ==== Proof.Out.lean ====
/- What the body of the kernel reads and leaves at a grid point, on the extended reals, element by element. -/
module

public import proofs.«01_k».proof.Proof.Point

@[expose] public section

set_option maxRecDepth 65536

noncomputable section

namespace Cert.KernelIdeal.Slab

open Cert.KernelIdeal Cert.KernelIdeal.Gen Idealize.ShloMosaic Cert.Softmax

section Parts

variable {sig : RefSig} {κ' : Kind} {sp : Space}

/-- A load of one number out of sixteen. -/
theorem load16 (v : View sig κ' sp S16 .f32) (f : v.ty.Contents (Elt Ideal)) (off : Fin 1 → ℕ)
    (h : ∀ a, off a + S1.size a ≤ S16.size a) (h1 : 0 < (Rect.unit (s := S16) off S1.size h).shape.numel) (n : Fin 16) (ho : off = ![n.val]) :
    v.readAt (Elt Ideal) (Rect.unit (s := S16) off S1.size h).toLoadRect f (Shape.Idx.first h1) = v.read (Elt Ideal) f (ix1 n) := by
  subst ho
  refine congrArg (v.read (Elt Ideal) f) (funext fun a => ?_)
  match a with
  | ⟨0, _⟩ => exact Fin.ext (by show n.val + 1 * 0 = n.val; omega)

/-- A load of one number out of two. -/
theorem load2 (v : View sig κ' sp S2 .f32) (f : v.ty.Contents (Elt Ideal)) (off : Fin 1 → ℕ)
    (h : ∀ a, off a + S1.size a ≤ S2.size a) (h1 : 0 < (Rect.unit (s := S2) off S1.size h).shape.numel) (n : Fin 2) (ho : off = ![n.val]) :
    v.readAt (Elt Ideal) (Rect.unit (s := S2) off S1.size h).toLoadRect f (Shape.Idx.first h1) = v.read (Elt Ideal) f (ix1 n) := by
  subst ho
  refine congrArg (v.read (Elt Ideal) f) (funext fun a => ?_)
  match a with
  | ⟨0, _⟩ => exact Fin.ext (by show n.val + 1 * 0 = n.val; omega)

/-- Element `(n, d)` of a chunk. -/
theorem chunkAt_apply (v : View sig κ' sp S1x32768x256 .fp8e4m3) (f : v.ty.Contents (Elt Ideal)) (j : ℕ) (n d : Fin 256) :
    chunkAt v f j (ix3 0 n d) = v.read (Elt Ideal) f (ix3 0 ⟨256 * (j % 128) + n.val, by omega⟩ d) := by
  refine congrArg (v.read (Elt Ideal) f) (funext fun a => ?_)
  match a with
  | ⟨0, _⟩ => rfl
  | ⟨1, _⟩ => exact Fin.ext (by show 256 * (j % 128) + 1 * n.val = 256 * (j % 128) + n.val; omega)
  | ⟨2, _⟩ => exact Fin.ext (by show 0 + 1 * d.val = d.val; omega)

/-- Where the slab at row `o` lies in the queries or in the result so far. -/
def wideRect (o : ℕ) (h : o + 128 ≤ 1024) : Rect S1024x256 :=
  Rect.unit (s := S1024x256) ![o, 0] S128x256.size fun a => match a with
    | ⟨0, _⟩ => h
    | ⟨1, _⟩ => le_rfl

/-- The stores of the queries of the eight slabs, the last one first. -/
def queryPieces (w : Fin 8 → FVec Ideal S128x256 .fp8e4m3) : List (View.Piece (Elt Ideal) S1024x256 .fp8e4m3) :=
  [⟨wideRect 896 (by decide), w 7⟩, ⟨wideRect 768 (by decide), w 6⟩, ⟨wideRect 640 (by decide), w 5⟩, ⟨wideRect 512 (by decide), w 4⟩, ⟨wideRect 384 (by decide), w 3⟩, ⟨wideRect 256 (by decide), w 2⟩, ⟨wideRect 128 (by decide), w 1⟩, ⟨wideRect 0 (by decide), w 0⟩]

/-- After them each slab holds what was stored there. -/
theorem read_queryPieces (v : View sig κ' sp S1024x256 .fp8e4m3) (f : v.ty.Contents (Elt Ideal))
    (w : Fin 8 → FVec Ideal S128x256 .fp8e4m3) (g : Fin 8) (r : Fin 128) (d : Fin 256) :
    v.read (Elt Ideal) (v.writes (Elt Ideal) f (queryPieces w)) (ix2 (row g r) d) = w g (ix2 r d) := by
  have hit : ∀ (o : ℕ) (h : o + 128 ≤ 1024) (u : FVec Ideal S128x256 .fp8e4m3) (L : List (View.Piece (Elt Ideal) S1024x256 .fp8e4m3)), o = 128 * g.val →
      v.read (Elt Ideal) (v.writes (Elt Ideal) f (⟨wideRect o h, u⟩ :: L)) (ix2 (row g r) d) = u (ix2 r d) := by
    intro o h u L ho
    refine View.read_writes_cons_hit_of_coords v f (wideRect o h) u L (ix2 r d : S128x256.Idx) _ fun a => ?_
    match a with
    | ⟨0, _⟩ => show 128 * g.val + r.val = o + 1 * r.val; omega
    | ⟨1, _⟩ => show d.val = 0 + 1 * d.val; omega
  have miss : ∀ (o : ℕ) (h : o + 128 ≤ 1024) (u : FVec Ideal S128x256 .fp8e4m3) (L : List (View.Piece (Elt Ideal) S1024x256 .fp8e4m3)),
      128 * g.val + 128 ≤ o →
      v.read (Elt Ideal) (v.writes (Elt Ideal) f (⟨wideRect o h, u⟩ :: L)) (ix2 (row g r) d) = v.read (Elt Ideal) (v.writes (Elt Ideal) f L) (ix2 (row g r) d) :=
    fun o h u L ho => View.read_writes_cons_miss_of_axis v f _ L _ 0 o 128 rfl rfl rfl
      (Or.inl (show 128 * g.val + r.val < o by omega))
  unfold queryPieces
  fin_cases g
  all_goals
    repeat first
      | exact hit _ _ _ _ (by decide)
      | refine (miss _ _ _ _ (by decide)).trans ?_

/-- Where the columns from `o` on lie in the block of the queries or of the result. -/
def colRect (o : ℕ) (h : o + 256 ≤ 2048) : Rect S1x128x2048 :=
  Rect.unit (s := S1x128x2048) ![0, 0, o] S1x128x256.size fun a => match a with
    | ⟨0, _⟩ => le_rfl
    | ⟨1, _⟩ => le_rfl
    | ⟨2, _⟩ => h

/-- A block without its first axis. -/
def flat (w : Vec Ideal S1x128x256 .fp8e4m3) : FVec Ideal S128x256 .fp8e4m3 :=
  shapeCast S128x256 (shapeCast S128x256 w shapeCasts_S1x128x256_S128x256) shapeCasts_S128x256_S128x256

/-- Dropping the first axis of a block keeps its elements. -/
theorem flat_apply (w : Vec Ideal S1x128x256 .fp8e4m3) (r : Fin 128) (d : Fin 256) : flat w (ix2 r d) = w (ix3 0 r d) := by
  unfold flat
  pointwise []

/-- The queries of one slab, as they are copied. -/
def pick (v : View sig κ' sp S1x128x2048 .fp8e4m3) (f : v.ty.Contents (Elt Ideal)) (o : ℕ) (h : o + 256 ≤ 2048) :
    FVec Ideal S128x256 .fp8e4m3 :=
  flat (v.readAt (Elt Ideal) (colRect o h).toLoadRect f)

/-- The queries of one slab are the columns of the block from the given one on. -/
theorem pick_apply (v : View sig κ' sp S1x128x2048 .fp8e4m3) (f : v.ty.Contents (Elt Ideal)) (o : ℕ) (h : o + 256 ≤ 2048)
    (r : Fin 128) (d : Fin 256) : pick v f o h (ix2 r d) = v.read (Elt Ideal) f (ix3 0 r ⟨o + d.val, by omega⟩) := by
  refine (flat_apply _ r d).trans ?_
  refine congrArg (v.read (Elt Ideal) f) (funext fun a => ?_)
  match a with
  | ⟨0, _⟩ => rfl
  | ⟨1, _⟩ => exact Fin.ext (by show 0 + 1 * r.val = r.val; omega)
  | ⟨2, _⟩ => exact Fin.ext (by show o + 1 * d.val = o + d.val; omega)

/-- The result of one slab, as it is loaded before the division. -/
def slabOut (v : View sig κ' sp S1024x256 .f32) (f : v.ty.Contents (Elt Ideal)) (o : ℕ) (h : o + 128 ≤ 1024) : Vec Ideal S128x256 .f32 :=
  v.readAt (Elt Ideal) (wideRect o h).toLoadRect f

/-- The result of one slab is the rows of that head in the running result. -/
theorem slabOut_apply (v : View sig κ' sp S1024x256 .f32) (f : v.ty.Contents (Elt Ideal)) (o : ℕ) (h : o + 128 ≤ 1024)
    (g : Fin 8) (ho : o = 128 * g.val) (r : Fin 128) (d : Fin 256) : slabOut v f o h (ix2 r d) = outs v f (ix2 (row g r) d) := by
  refine congrArg (v.read (Elt Ideal) f) (funext fun a => ?_)
  match a with
  | ⟨0, _⟩ => exact Fin.ext (by show o + 1 * r.val = 0 + 1 * (128 * g.val + r.val); omega)
  | ⟨1, _⟩ => rfl

/-- The result of one slab, as it is stored. -/
def scaled (o : ℕ) (h : S1024x1.Slices ![o, 0] S128x1) (w : Vec Ideal S128x256 .f32) (q : FVec Ideal S1024x1 .f32) : FVec Ideal S1x128x256 .bf16 :=
  shapeCast S1x128x256 (truncf .bf16 (mulf w (broadcastTo S128x256 (extractStridedSlice S128x1 ![o, 0] q h) broadcasts_S128x1_S128x256)) bitsLt_bf16_f32)
    shapeCasts_S128x256_S1x128x256

/-- What is stored for a head: its result times the row's ratio. -/
theorem scaled_apply (o : ℕ) (h : S1024x1.Slices ![o, 0] S128x1) (w : Vec Ideal S128x256 .f32) (q : FVec Ideal S1024x1 .f32)
    (g : Fin 8) (ho : o = 128 * g.val) (r : Fin 128) (d : Fin 256) :
    scaled o h w q (ix3 0 r d) = w (ix2 r d) * q (ix2 (row g r) 0) := by
  have e : scaled o h w q (ix3 0 r d) = w (ix2 r d) * (extractStridedSlice S128x1 ![o, 0] q h) (ix2 r 0) := by
    unfold scaled
    generalize extractStridedSlice S128x1 ![o, 0] q h = u
    pointwise []
  rw [e]
  refine congrArg (w (ix2 r d) * ·) (congrArg q (funext fun a => ?_))
  match a with
  | ⟨0, _⟩ => exact Fin.ext (by show o + r.val = 128 * g.val + r.val; omega)
  | ⟨1, _⟩ => rfl

/-- The column of element `d` of head `g` of the group. -/
def col (g : Fin 8) (d : Fin 256) : Fin 2048 := ⟨256 * g.val + d.val, by omega⟩

/-- The stores of the results of the eight slabs, the last one first. -/
def resultPieces (w : Fin 8 → FVec Ideal S1x128x256 .bf16) : List (View.Piece (Elt Ideal) S1x128x2048 .bf16) :=
  [⟨colRect 1792 (by decide), w 7⟩, ⟨colRect 1536 (by decide), w 6⟩, ⟨colRect 1280 (by decide), w 5⟩, ⟨colRect 1024 (by decide), w 4⟩, ⟨colRect 768 (by decide), w 3⟩, ⟨colRect 512 (by decide), w 2⟩, ⟨colRect 256 (by decide), w 1⟩, ⟨colRect 0 (by decide), w 0⟩]

/-- After them the columns of each head hold what was stored there. -/
theorem read_resultPieces (v : View sig κ' sp S1x128x2048 .bf16) (f : v.ty.Contents (Elt Ideal))
    (w : Fin 8 → FVec Ideal S1x128x256 .bf16) (g : Fin 8) (r : Fin 128) (d : Fin 256) :
    v.read (Elt Ideal) (v.writes (Elt Ideal) f (resultPieces w)) (ix3 0 r (col g d)) = w g (ix3 0 r d) := by
  have hit : ∀ (o : ℕ) (h : o + 256 ≤ 2048) (u : FVec Ideal S1x128x256 .bf16) (L : List (View.Piece (Elt Ideal) S1x128x2048 .bf16)), o = 256 * g.val →
      v.read (Elt Ideal) (v.writes (Elt Ideal) f (⟨colRect o h, u⟩ :: L)) (ix3 0 r (col g d)) = u (ix3 0 r d) := by
    intro o h u L ho
    refine View.read_writes_cons_hit_of_coords v f (colRect o h) u L (ix3 0 r d : S1x128x256.Idx) _ fun a => ?_
    match a with
    | ⟨0, _⟩ => rfl
    | ⟨1, _⟩ => show r.val = 0 + 1 * r.val; omega
    | ⟨2, _⟩ => show 256 * g.val + d.val = o + 1 * d.val; omega
  have miss : ∀ (o : ℕ) (h : o + 256 ≤ 2048) (u : FVec Ideal S1x128x256 .bf16) (L : List (View.Piece (Elt Ideal) S1x128x2048 .bf16)),
      256 * g.val + 256 ≤ o →
      v.read (Elt Ideal) (v.writes (Elt Ideal) f (⟨colRect o h, u⟩ :: L)) (ix3 0 r (col g d)) = v.read (Elt Ideal) (v.writes (Elt Ideal) f L) (ix3 0 r (col g d)) :=
    fun o h u L ho => View.read_writes_cons_miss_of_axis v f _ L _ 2 o 256 rfl rfl rfl
      (Or.inl (show 256 * g.val + d.val < o by omega))
  unfold resultPieces
  fin_cases g
  all_goals
    repeat first
      | exact hit _ _ _ _ (by decide)
      | refine (miss _ _ _ _ (by decide)).trans ?_

end Parts

/-- Which group of eight heads a grid point works on. -/
def kvOf (i : grid0.Coords) : Fin 2 := i 1

/-- The scale of query head `g` of the group stands at `8 * group + g`. -/
theorem off1 (i : grid0.Coords) (g : Fin 8) : k0_off1 i (BitVec.ofNat 32 g.val) = ![8 * (kvOf i).val + g.val] := by
  have h : ∀ kv : Fin 2, ∀ g : Fin 8, (![(Scalar.indexCast (Scalar.addi (Scalar.muli (BitVec.ofNat 32 kv.val) 8#32) (BitVec.ofNat 32 g.val)) : Index).toNat] : Fin 1 → ℕ)
      = ![8 * kv.val + g.val] := by decide
  exact h (kvOf i) g

/-- The scale of the group's keys, and that of its values, stands at the group's number. -/
theorem off2 (i : grid0.Coords) : k0_off2 i = ![(kvOf i).val] := by
  have h : ∀ kv : Fin 2, (![(Scalar.indexCast (BitVec.ofNat 32 kv.val) : Index).toNat] : Fin 1 → ℕ) = ![kv.val] := by decide
  exact h (kvOf i)

section Run

variable (c : Dev nD) (i : grid0.Coords) (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x128x2048 .fp8e4m3) (harg6 : arg6.IsWhole) (arg7 : Memref sig .tc .vmem S1x32768x256 .fp8e4m3) (harg7 : arg7.IsWhole) (arg8 : Memref sig .tc .vmem S1x32768x256 .fp8e4m3) (harg8 : arg8.IsWhole) (arg9 : Memref sig .tc .vmem S1x128x2048 .bf16) (harg9 : arg9.IsWhole) (arg10 : Memref sig .tc .vmem S1024x256 .fp8e4m3) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x256 .f32) (harg13 : arg13.IsWhole)   (x0 : Vec Ideal S16 .f32) (x1 : Vec Ideal S2 .f32) (x2 : Vec Ideal S2 .f32) (x3 : Vec Ideal S1x128x2048 .fp8e4m3) (x4 : Vec Ideal S1x32768x256 .fp8e4m3) (x5 : Vec Ideal S1x32768x256 .fp8e4m3)

/-- The scale of head `g` of the group. -/
theorem heads_apply (g : Fin 8) : (heads c i arg3 harg3 arg4 harg4 x0 x1) g
    = x0 (ix1 ⟨8 * (kvOf i).val + g.val, by omega⟩) * x1 (ix1 (kvOf i)) * Ideal.ofBits .f32 0x3AA3D70A#32 := by
  have key : ∀ h h' h1 h1', Scalar.mulf (Scalar.mulf
      (arg3.view.readAt (Elt Ideal) (Rect.unit (s := S16) (k0_off1 i (BitVec.ofNat 32 g.val)) S1.size h).toLoadRect (harg3.unread x0) (Shape.Idx.first h1))
      (arg4.view.readAt (Elt Ideal) (Rect.unit (s := S2) (k0_off2 i) S1.size h').toLoadRect (harg4.unread x1) (Shape.Idx.first h1')))
      (Scalar.ofBits (F := Ideal) .f32 0x3AA3D70A#32)
      = x0 (ix1 ⟨8 * (kvOf i).val + g.val, by omega⟩) * x1 (ix1 (kvOf i)) * Ideal.ofBits .f32 0x3AA3D70A#32 := by
    intro h h' h1 h1'
    rw [load16 arg3.view _ _ h h1 ⟨8 * (kvOf i).val + g.val, by omega⟩ (off1 i g), load2 arg4.view _ _ h' h1' (kvOf i) (off2 i),
      harg3.read_unread, harg4.read_unread]
    rfl
  fin_cases g
  all_goals exact key _ _ _ _

/-- The queries, as the passes load them. -/
theorem queries_apply (g : Fin 8) (r : Fin 128) (d : Fin 256) : (queries arg10.view (arg10.view.writes (Elt Ideal) arg10.view.junk (kernelRun0_A.sl.HS0_8 c arg6 harg6 x3))) (ix2 (row g r) d) = x3 (ix3 0 r (col g d)) := by
  have e : kernelRun0_A.sl.HS0_8 c arg6 harg6 x3 = queryPieces ![pick arg6.view (harg6.unread x3) 0 (by decide),
    pick arg6.view (harg6.unread x3) 256 (by decide),
    pick arg6.view (harg6.unread x3) 512 (by decide),
    pick arg6.view (harg6.unread x3) 768 (by decide),
    pick arg6.view (harg6.unread x3) 1024 (by decide),
    pick arg6.view (harg6.unread x3) 1280 (by decide),
    pick arg6.view (harg6.unread x3) 1536 (by decide),
    pick arg6.view (harg6.unread x3) 1792 (by decide)] := rfl
  have e2 : (queries arg10.view (arg10.view.writes (Elt Ideal) arg10.view.junk (kernelRun0_A.sl.HS0_8 c arg6 harg6 x3))) (ix2 (row g r) d) = arg10.view.read (Elt Ideal) (arg10.view.writes (Elt Ideal) arg10.view.junk (kernelRun0_A.sl.HS0_8 c arg6 harg6 x3)) (ix2 (row g r) d) := by
    refine congrArg (arg10.view.read (Elt Ideal) _) (funext fun a => ?_)
    match a with
    | ⟨0, _⟩ => exact Fin.ext (by show 0 + 1 * (128 * g.val + r.val) = 128 * g.val + r.val; omega)
    | ⟨1, _⟩ => exact Fin.ext (by show 0 + 1 * d.val = d.val; omega)
  rw [e2, e, read_queryPieces]
  have key : ∀ (o : ℕ) (h : o + 256 ≤ 2048), o = 256 * g.val → pick arg6.view (harg6.unread x3) o h (ix2 r d) = x3 (ix3 0 r (col g d)) := by
    intro o h ho
    subst ho
    rw [pick_apply, harg6.read_unread]
    rfl
  fin_cases g
  all_goals exact key _ _ (by decide)

/-- The score of a key at this point. -/
theorem scoreOf_apply (g : Fin 8) (r : Fin 128) (n : ℕ) (hn : n < 32768) : scoreOf c i arg3 harg3 arg4 harg4 arg6 harg6 arg7 harg7 arg10 x0 x1 x3 x4 g r n
    = (∑ d : Fin 256, x3 (ix3 0 r (col g d)) * x4 (ix3 0 ⟨n, hn⟩ d))
      * (x0 (ix1 ⟨8 * (kvOf i).val + g.val, by omega⟩) * x1 (ix1 (kvOf i)) * Ideal.ofBits .f32 0x3AA3D70A#32) := by
  have e : (⟨256 * (n / 256 % 128) + n % 256, by omega⟩ : Fin 32768) = ⟨n, hn⟩ := Fin.ext (by show 256 * (n / 256 % 128) + n % 256 = n; omega)
  unfold scoreOf score
  rw [heads_apply]
  simp only [queries_apply, chunkAt_apply, harg7.read_unread, e]

/-- Element `d` of the value of a key. -/
theorem value_apply (d : Fin 256) (n : ℕ) (hn : n < 32768) : value (chunkAt arg8.view (harg8.unread x5)) d n = x5 (ix3 0 ⟨n, hn⟩ d) := by
  have e : (⟨256 * (n / 256 % 128) + n % 256, by omega⟩ : Fin 32768) = ⟨n, hn⟩ := Fin.ext (by show 256 * (n / 256 % 128) + n % 256 = n; omega)
  unfold value
  simp only [chunkAt_apply, harg8.read_unread, e]

/-- The ratio a row's result is multiplied by. -/
theorem ratio_eq (g : Fin 8) (r : Fin 128) : kernelRun0_A.sl.r_49 c i arg3 harg3 arg4 harg4 arg5 harg5 arg6 harg6 arg7 harg7 arg8 harg8 arg9 harg9 arg10 harg10 arg11 harg11 arg12 harg12 arg13 harg13 x0 x1 x2 x3 x4 x5 (ix2 (row g r) 0)
    = Ideal.div (x2 (ix1 (kvOf i)) * ((256⁻¹ : ℝ) : EReal))
        ((∑ n ∈ Finset.range (256 * (full i + 1)), pK (scoreOf c i arg3 harg3 arg4 harg4 arg6 harg6 arg7 harg7 arg10 x0 x1 x3 x4 g r) (topOf c i arg3 harg3 arg4 harg4 arg6 harg6 arg7 harg7 arg10 x0 x1 x3 x4 g r) (query i r) n) * ((256⁻¹ : ℝ) : EReal)) := by
  have e : kernelRun0_A.sl.r_48 c i arg5 harg5 x2 = x2 (ix1 (kvOf i)) := by
    refine (load2 arg5.view _ _ (k0_off2_inb i) _ (kvOf i) (off2 i)).trans ?_
    rw [harg5.read_unread]
  rw [← e, ← sums_eq]
  exact ratio_apply _ _ _

/-- What the point leaves in the result, element by element. -/
theorem out_apply (g : Fin 8) (r : Fin 128) (d : Fin 256) : out0_A_6 c i arg3 harg3 arg4 harg4 arg5 harg5 arg6 harg6 arg7 harg7 arg8 harg8 arg9 harg9 arg10 harg10 arg11 harg11 arg12 harg12 arg13 harg13 x0 x1 x2 x3 x4 x5 (ix3 0 r (col g d))
    = (∑ n ∈ Finset.range (256 * (full i + 1)),
        clip (pK (scoreOf c i arg3 harg3 arg4 harg4 arg6 harg6 arg7 harg7 arg10 x0 x1 x3 x4 g r) (topOf c i arg3 harg3 arg4 harg4 arg6 harg6 arg7 harg7 arg10 x0 x1 x3 x4 g r) (query i r) n) * value (chunkAt arg8.view (harg8.unread x5)) d n)
      * Ideal.div (x2 (ix1 (kvOf i)) * ((256⁻¹ : ℝ) : EReal))
        ((∑ n ∈ Finset.range (256 * (full i + 1)), pK (scoreOf c i arg3 harg3 arg4 harg4 arg6 harg6 arg7 harg7 arg10 x0 x1 x3 x4 g r) (topOf c i arg3 harg3 arg4 harg4 arg6 harg6 arg7 harg7 arg10 x0 x1 x3 x4 g r) (query i r) n) * ((256⁻¹ : ℝ) : EReal)) := by
  have e : (kernelRun0_A c i arg3 harg3 arg4 harg4 arg5 harg5 arg6 harg6 arg7 harg7 arg8 harg8 arg9 harg9 arg10 harg10 arg11 harg11 arg12 harg12 arg13 harg13 x0 x1 x2 x3 x4 x5).1 = resultPieces ![scaled 0 slices_S1024x1_o0_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 0 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5),
      scaled 128 slices_S1024x1_o128_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 128 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5),
      scaled 256 slices_S1024x1_o256_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 256 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5),
      scaled 384 slices_S1024x1_o384_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 384 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5),
      scaled 512 slices_S1024x1_o512_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 512 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5),
      scaled 640 slices_S1024x1_o640_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 640 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5),
      scaled 768 slices_S1024x1_o768_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 768 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5),
      scaled 896 slices_S1024x1_o896_0_S128x1 (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) 896 (by decide)) (kernelRun0_A.sl.r_49 c i arg3 harg3 arg4 harg4 arg5 harg5 arg6 harg6 arg7 harg7 arg8 harg8 arg9 harg9 arg10 harg10 arg11 harg11 arg12 harg12 arg13 harg13 x0 x1 x2 x3 x4 x5)] := rfl
  unfold out0_A_6
  rw [e, read_resultPieces, ← ratio_eq, ← outs_eq]
  have key : ∀ (o : ℕ) (h : S1024x1.Slices ![o, 0] S128x1) (h' : o + 128 ≤ 1024), o = 128 * g.val →
      scaled o h (slabOut arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) o h') (kernelRun0_A.sl.r_49 c i arg3 harg3 arg4 harg4 arg5 harg5 arg6 harg6 arg7 harg7 arg8 harg8 arg9 harg9 arg10 harg10 arg11 harg11 arg12 harg12 arg13 harg13 x0 x1 x2 x3 x4 x5) (ix3 0 r d)
        = outs arg13.view (arg13.view.writes (Elt Ideal) arg13.view.junk (kernelRun0_A.sl.HS3_1_1 c i arg3 harg3 arg4 harg4 arg5 harg5 arg6 harg6 arg7 harg7 arg8 harg8 arg9 harg9 arg10 harg10 arg11 harg11 arg12 harg12 arg13 harg13 x0 x1 x3 x4 x5)) (ix2 (row g r) d) * kernelRun0_A.sl.r_49 c i arg3 harg3 arg4 harg4 arg5 harg5 arg6 harg6 arg7 harg7 arg8 harg8 arg9 harg9 arg10 harg10 arg11 harg11 arg12 harg12 arg13 harg13 x0 x1 x2 x3 x4 x5 (ix2 (row g r) 0) := by
    intro o h h' ho
    rw [scaled_apply o h _ _ g ho, slabOut_apply _ _ o h' g ho]
  fin_cases g
  all_goals exact key _ _ _ (by decide)

end Run

end Cert.KernelIdeal.Slab

end
-- ==== Proof.Ref.lean ====
/- The reference on the extended reals, element by element. -/
module

public import proofs.«01_k».proof.Proof.Gen.ReferenceIdeal.Value
public import proofs.«01_k».proof.Proof.Softmax
public import proofs.«01_k».proof.Proof.Consts
public import Idealize.ShloMosaic.Lib.Pointwise

@[expose] public section

set_option maxRecDepth 16384

noncomputable section

namespace Cert.ReferenceIdeal.Rows

open Cert.ReferenceIdeal Cert.ReferenceIdeal.Gen Idealize.ShloMosaic Cert.Softmax

variable (a0 : Vec Ideal S2x32768x4096 .fp8e4m3) (a1 : Vec Ideal S16 .f32) (a2 : Vec Ideal S2x32768x512 .fp8e4m3)
  (a3 : Vec Ideal S2 .f32) (a4 : Vec Ideal S2x32768x512 .fp8e4m3) (a5 : Vec Ideal S2 .f32)

/-- The score of key `n` for the query `s` of head `g` of a group, times the cap's factor. -/
def scoreAt (b kv : Fin 2) (g : Fin 8) (s n : Fin 32768) : EReal :=
  (∑ d : Fin 256, a0 (ix3 b s ⟨kv.val * 2048 + g.val * 256 + d.val, by omega⟩) * a2 (ix3 b n ⟨kv.val * 256 + d.val, by omega⟩))
    * (a1 (ix1 ⟨kv.val * 8 + g.val, by omega⟩) * a3 (ix1 kv) * Ideal.ofBits .f32 0x3AA3D70A#32)

/-- The capped score of key `n`, minus infinity if the key comes after the query. -/
def capped (b kv : Fin 2) (g : Fin 8) (s n : Fin 32768) : EReal :=
  if n.val ≤ s.val then ((50 : ℝ) : EReal) * Ideal.tanh (scoreAt a0 a1 a2 a3 b kv g s n) else ⊥

/-- The weight of key `n`, before the division. -/
def weight (b kv : Fin 2) (g : Fin 8) (s n : Fin 32768) : EReal :=
  Ideal.exp (capped a0 a1 a2 a3 b kv g s n - (Finset.univ : Finset (Fin 32768)).fold max ⊥ (fun k => capped a0 a1 a2 a3 b kv g s k))

/-- The masked and capped score, as the reference writes it, is `capped`. -/
theorem capped_eq (b kv : Fin 2) (g : Fin 8) (s n : Fin 32768) :
    Scalar.select (IntOp.cmpi CmpIPredicate.sle (BitVec.ofNat 32 n.val) (BitVec.ofNat 32 s.val))
      (((50 : ℝ) : EReal) * Ideal.tanh
        ((∑ d : Fin 256, a2 (ix3 b n ⟨kv.val * 256 + d.val, by omega⟩) * a0 (ix3 b s ⟨kv.val * 2048 + g.val * 256 + d.val, by omega⟩))
          * (a1 (ix1 ⟨kv.val * 8 + g.val, by omega⟩) * a3 (ix1 kv) * Ideal.ofBits .f32 0x3D800000#32) * Ideal.ofBits .f32 0x3CA3D70A#32))
      (⊥ : EReal) = capped a0 a1 a2 a3 b kv g s n := by
  have e : (∑ d : Fin 256, a2 (ix3 b n ⟨kv.val * 256 + d.val, by omega⟩) * a0 (ix3 b s ⟨kv.val * 2048 + g.val * 256 + d.val, by omega⟩))
      * (a1 (ix1 ⟨kv.val * 8 + g.val, by omega⟩) * a3 (ix1 kv) * Ideal.ofBits .f32 0x3D800000#32) * Ideal.ofBits .f32 0x3CA3D70A#32
      = scoreAt a0 a1 a2 a3 b kv g s n := by
    unfold scoreAt
    rw [mul_assoc, mul_comm (_ * a3 _) (Ideal.ofBits .f32 0x3D800000#32), Consts.two_scales]
    exact congrArg (· * _) (Finset.sum_congr rfl fun d _ => mul_comm _ _)
  rw [e]
  unfold capped
  have hc : IntOp.cmpi CmpIPredicate.sle (BitVec.ofNat 32 n.val) (BitVec.ofNat 32 s.val) = 1#1 ↔ n.val ≤ s.val :=
    WordCmp.cmpi_sle_ofNat_eq_one_iff (by show _ < 2 ^ 31; omega) (by show _ < 2 ^ 31; omega)
  show (if _ = 1#1 then _ else _) = _
  by_cases h : n.val ≤ s.val
  · rw [if_pos (hc.2 h), if_pos h]
  · rw [if_neg (fun h' => h (hc.1 h')), if_neg h]

/-- The reference's exponentials are the weights. -/
theorem weights (b kv : Fin 2) (g : Fin 8) (s n : Fin 32768) : k0_pay3 a0 a1 a2 a3 (ix5 b kv g s n) = weight a0 a1 a2 a3 b kv g s n := by
  unfold k0_pay3
  pointwise []
  simp only [Consts.ofBits_50, Consts.ofBits_bot]
  exact congrArg₂ (fun u v => Ideal.exp (u - v)) (capped_eq a0 a1 a2 a3 b kv g s n)
    (congrArg (fun f => (Finset.univ : Finset (Fin 32768)).fold max ⊥ f) (funext fun k => capped_eq a0 a1 a2 a3 b kv g s k))

/-- The reference's result from any weights: codes times values, scaled and divided by the sum of the weights. -/
theorem weighted (p : FVec Ideal S2x2x8x32768x32768 .f32) (b kv : Fin 2) (g : Fin 8) (d : Fin 256) (s : Fin 32768) :
    k0_pay1 a5 (k0_pay2 a4) p (ix3 b s ⟨2048 * kv.val + (256 * g.val + d.val), by omega⟩)
      = Ideal.div ((∑ k : Fin 32768, a4 (ix3 b k ⟨kv.val * 256 + d.val, by omega⟩) * clip (p (ix5 b kv g s k) * ((256 : ℝ) : EReal)))
          * (a5 (ix1 kv) * ((256⁻¹ : ℝ) : EReal))) (∑ k : Fin 32768, p (ix5 b kv g s k)) := by
  unfold k0_pay1 k0_pay2
  pointwise []
  simp only [Consts.ofBits_448, Consts.ofBits_neg448, Consts.ofBits_256, Consts.ofBits_inv256]
  rfl

/-- The reference's result, element by element. -/
theorem result_apply (b kv : Fin 2) (g : Fin 8) (d : Fin 256) (s : Fin 32768) :
    Cert.ReferenceIdeal.Value.G6 a0 a1 a2 a3 a4 a5 (ix3 b s ⟨2048 * kv.val + (256 * g.val + d.val), by omega⟩)
      = Ideal.div ((∑ k : Fin 32768, a4 (ix3 b k ⟨kv.val * 256 + d.val, by omega⟩) * clip (weight a0 a1 a2 a3 b kv g s k * ((256 : ℝ) : EReal)))
          * (a5 (ix1 kv) * ((256⁻¹ : ℝ) : EReal))) (∑ k : Fin 32768, weight a0 a1 a2 a3 b kv g s k) := by
  refine (weighted a4 a5 (k0_pay3 a0 a1 a2 a3) b kv g d s).trans ?_
  simp only [weights]

end Cert.ReferenceIdeal.Rows

end
-- ==== Proof.Result.lean ====
/- The result of the kernel is the reference's result: at each grid point, and so in the whole array. -/
module

public import proofs.«01_k».proof.Proof.Out
public import proofs.«01_k».proof.Proof.Ref
public import proofs.«01_k».proof.Proof.Gen.KernelIdeal.Value
public import Idealize.ShloMosaic.Lib.Pipeline.Covers

@[expose] public section

set_option maxRecDepth 65536

noncomputable section

namespace Cert.KernelIdeal.Slab

open Cert.KernelIdeal Cert.KernelIdeal.Gen Idealize.ShloMosaic Idealize.ShloMosaic.TcCoe Idealize.SL.Sem Cert.Softmax

/-- Which of the two sequences a grid point works on. -/
def batchOf (i : grid0.Coords) : Fin 2 := i 0

/-- The query of row `r` at a grid point. -/
def queryOf (i : grid0.Coords) (r : Fin 128) : Fin 32768 := ⟨query i r, by unfold query; omega⟩

/-- The column, among all heads, of column `j` of the group's block. -/
def wideCol (i : grid0.Coords) (j : Fin 2048) : Fin 4096 := ⟨2048 * (kvOf i).val + j.val, by omega⟩

/-- The column, among both groups, of element `d` of the group's key or value. -/
def keyCol (i : grid0.Coords) (d : Fin 256) : Fin 512 := ⟨256 * (kvOf i).val + d.val, by omega⟩

section Point

variable (c : Dev nD) (i : grid0.Coords) (arg3 : Memref sig .tc .smem S16 .f32) (harg3 : arg3.IsWhole) (arg4 : Memref sig .tc .smem S2 .f32) (harg4 : arg4.IsWhole) (arg5 : Memref sig .tc .smem S2 .f32) (harg5 : arg5.IsWhole) (arg6 : Memref sig .tc .vmem S1x128x2048 .fp8e4m3) (harg6 : arg6.IsWhole) (arg7 : Memref sig .tc .vmem S1x32768x256 .fp8e4m3) (harg7 : arg7.IsWhole) (arg8 : Memref sig .tc .vmem S1x32768x256 .fp8e4m3) (harg8 : arg8.IsWhole) (arg9 : Memref sig .tc .vmem S1x128x2048 .bf16) (harg9 : arg9.IsWhole) (arg10 : Memref sig .tc .vmem S1024x256 .fp8e4m3) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x256 .f32) (harg13 : arg13.IsWhole)   (x0 : Vec Ideal S16 .f32) (x1 : Vec Ideal S2 .f32) (x2 : Vec Ideal S2 .f32) (x3 : Vec Ideal S1x128x2048 .fp8e4m3) (x4 : Vec Ideal S1x32768x256 .fp8e4m3) (x5 : Vec Ideal S1x32768x256 .fp8e4m3)
  (a0 : Vec Ideal S2x32768x4096 .fp8e4m3) (a1 : Vec Ideal S16 .f32) (a2 : Vec Ideal S2x32768x512 .fp8e4m3)
  (a3 : Vec Ideal S2 .f32) (a4 : Vec Ideal S2x32768x512 .fp8e4m3) (a5 : Vec Ideal S2 .f32)

/-- If a grid point's blocks are those of the arguments, what it leaves is its block of the reference's result. -/
theorem point_eq (h0 : x0 = a1) (h1 : x1 = a3) (h2 : x2 = a5)
    (h3 : ∀ r j, x3 (ix3 0 r j) = a0 (ix3 (batchOf i) (queryOf i r) (wideCol i j)))
    (h4 : ∀ n d, x4 (ix3 0 n d) = a2 (ix3 (batchOf i) n (keyCol i d)))
    (h5 : ∀ n d, x5 (ix3 0 n d) = a4 (ix3 (batchOf i) n (keyCol i d)))
    (g : Fin 8) (r : Fin 128) (d : Fin 256) :
    out0_A_6 c i arg3 harg3 arg4 harg4 arg5 harg5 arg6 harg6 arg7 harg7 arg8 harg8 arg9 harg9 arg10 harg10 arg11 harg11 arg12 harg12 arg13 harg13 x0 x1 x2 x3 x4 x5 (ix3 0 r (col g d))
      = Cert.ReferenceIdeal.Value.G6 (F := Ideal) a0 a1 a2 a3 a4 a5 (ix3 (batchOf i) (queryOf i r) (wideCol i (col g d))) := by
  subst h0 h1 h2
  have hcol : ∀ d : Fin 256, (⟨(kvOf i).val * 256 + d.val, by omega⟩ : Fin 512) = keyCol i d :=
    fun d => Fin.ext (by show (kvOf i).val * 256 + d.val = 256 * (kvOf i).val + d.val; omega)
  have hwide : ∀ d : Fin 256, (⟨(kvOf i).val * 2048 + g.val * 256 + d.val, by omega⟩ : Fin 4096) = wideCol i (col g d) :=
    fun d => Fin.ext (by show (kvOf i).val * 2048 + g.val * 256 + d.val = 2048 * (kvOf i).val + (256 * g.val + d.val); omega)
  have hhead : (⟨(kvOf i).val * 8 + g.val, by omega⟩ : Fin 16) = ⟨8 * (kvOf i).val + g.val, by omega⟩ :=
    Fin.ext (by show (kvOf i).val * 8 + g.val = 8 * (kvOf i).val + g.val; omega)
  have hs : ∀ k : Fin 32768, sR (scoreOf c i arg3 harg3 arg4 harg4 arg6 harg6 arg7 harg7 arg10 x0 x1 x3 x4 g r) (query i r) k.val
      = Cert.ReferenceIdeal.Rows.capped a0 x0 a2 x1 (batchOf i) (kvOf i) g (queryOf i r) k := by
    intro k
    unfold sR Cert.ReferenceIdeal.Rows.capped Cert.ReferenceIdeal.Rows.scoreAt
    rw [scoreOf_apply _ _ _ _ _ _ _ _ _ _ _ _ _ _ _ _ _ _ k.isLt]
    simp only [h3, h4, hcol, hwide, hhead]
    rfl
  have hv : ∀ k : Fin 32768, value (chunkAt arg8.view (harg8.unread x5)) d k.val = a4 (ix3 (batchOf i) k (keyCol i d)) := fun k =>
    (value_apply _ _ _ _ _ k.isLt).trans (h5 k d)
  have hq : query i r < 256 * (full i + 1) := by unfold query full; omega
  have hB : 256 * (full i + 1) ≤ 32768 := by have := full_lt i; omega
  rw [out_apply, attn_eq _ _ _ _ hq hB (isTop_topOf c i arg3 harg3 arg4 harg4 arg6 harg6 arg7 harg7 arg10 x0 x1 x3 x4 g r)]
  refine Eq.trans ?_ (Cert.ReferenceIdeal.Rows.result_apply a0 x0 a2 x1 a4 x2 (batchOf i) (kvOf i) g d (queryOf i r)).symm
  simp only [hs, hv, hcol]
  rfl

end Point

/-- Which block of the queries a grid point takes. -/
theorem transform3 (i : grid0.Coords) : cc0_transform_3 i = ![(batchOf i).val, (qi i).val, (kvOf i).val] := by
  have h : ∀ n : ℕ, n < 256 → (BitVec.ofNat 32 n).toNat = n := fun n hn => by rw [BitVec.toNat_ofNat]; omega
  show ![(BitVec.ofNat 32 (batchOf i).val).toNat, (BitVec.ofNat 32 (qi i).val).toNat, (BitVec.ofNat 32 (kvOf i).val).toNat] = _
  rw [h _ (by omega), h _ (by omega), h _ (by omega)]

/-- Which block of the keys, and of the values, a grid point takes. -/
theorem transform4 (i : grid0.Coords) : cc0_transform_4 i = ![(batchOf i).val, 0, (kvOf i).val] := by
  have h : ∀ n : ℕ, n < 256 → (BitVec.ofNat 32 n).toNat = n := fun n hn => by rw [BitVec.toNat_ofNat]; omega
  show ![(BitVec.ofNat 32 (batchOf i).val).toNat, 0, (BitVec.ofNat 32 (kvOf i).val).toNat] = _
  rw [h _ (by omega), h _ (by omega)]

section Blocks

variable (m : (ℓ : Loc nD τ sig) → Buf (Elt Ideal) ℓ) (ρ : Dev nD → PrngReg) (c : Dev nD) (t : Fin cfg0.N)

/-- The scales' blocks are the whole scales. -/
theorem block0 : (iblk m c 0 t : Vec Ideal S16 .f32) = m ((c : Thread nD τ).loc main_arg1) := by
  funext j
  show V m c main_arg1 (((cfg0.win 0).blk t).view.emb j) = _
  rw [V_main_arg1]
  refine congrArg _ (funext fun a => Fin.ext ?_)
  match a with
  | ⟨0, _⟩ => show 0 * 16 + 1 * (j 0).val = (j 0).val; omega

/-- The block of the keys' scales is all of them. -/
theorem block1 : (iblk m c 1 t : Vec Ideal S2 .f32) = m ((c : Thread nD τ).loc main_arg3) := by
  funext j
  show V m c main_arg3 (((cfg0.win 1).blk t).view.emb j) = _
  rw [V_main_arg3]
  refine congrArg _ (funext fun a => Fin.ext ?_)
  match a with
  | ⟨0, _⟩ => show 0 * 2 + 1 * (j 0).val = (j 0).val; omega

/-- The block of the values' scales is all of them. -/
theorem block2 : (iblk m c 2 t : Vec Ideal S2 .f32) = m ((c : Thread nD τ).loc main_arg5) := by
  funext j
  show V m c main_arg5 (((cfg0.win 2).blk t).view.emb j) = _
  rw [V_main_arg5]
  refine congrArg _ (funext fun a => Fin.ext ?_)
  match a with
  | ⟨0, _⟩ => show 0 * 2 + 1 * (j 0).val = (j 0).val; omega

/-- The queries' block: 128 queries of one sequence, the eight heads of the group. -/
theorem block3 (r : Fin 128) (j : Fin 2048) : (iblk m c 3 t : Vec Ideal S1x128x2048 .fp8e4m3) (ix3 0 r j)
    = m ((c : Thread nD τ).loc main_arg0) (ix3 (batchOf (grid0.coords t)) (queryOf (grid0.coords t) r) (wideCol (grid0.coords t) j)) := by
  have e := transform3 (grid0.coords t)
  show V m c main_arg0 (((cfg0.win 3).blk t).view.emb (ix3 0 r j : S1x128x2048.Idx)) = _
  rw [V_main_arg0]
  refine congrArg _ (funext fun a => Fin.ext ?_)
  match a with
  | ⟨0, _⟩ =>
    show cc0_transform_3 (grid0.coords t) 0 * 1 + 1 * 0 = (batchOf (grid0.coords t)).val
    rw [e]; show (batchOf (grid0.coords t)).val * 1 + 1 * 0 = _; omega
  | ⟨1, _⟩ =>
    show cc0_transform_3 (grid0.coords t) 1 * 128 + 1 * r.val = 128 * (qi (grid0.coords t)).val + r.val
    rw [e]; show (qi (grid0.coords t)).val * 128 + 1 * r.val = _; omega
  | ⟨2, _⟩ =>
    show cc0_transform_3 (grid0.coords t) 2 * 2048 + 1 * j.val = 2048 * (kvOf (grid0.coords t)).val + j.val
    rw [e]; show (kvOf (grid0.coords t)).val * 2048 + 1 * j.val = _; omega

/-- The keys' block: all keys of one sequence and one group. -/
theorem block4 (n : Fin 32768) (d : Fin 256) : (iblk m c 4 t : Vec Ideal S1x32768x256 .fp8e4m3) (ix3 0 n d)
    = m ((c : Thread nD τ).loc main_arg2) (ix3 (batchOf (grid0.coords t)) n (keyCol (grid0.coords t) d)) := by
  have e := transform4 (grid0.coords t)
  show V m c main_arg2 (((cfg0.win 4).blk t).view.emb (ix3 0 n d : S1x32768x256.Idx)) = _
  rw [V_main_arg2]
  refine congrArg _ (funext fun a => Fin.ext ?_)
  match a with
  | ⟨0, _⟩ =>
    show cc0_transform_4 (grid0.coords t) 0 * 1 + 1 * 0 = (batchOf (grid0.coords t)).val
    rw [e]; show (batchOf (grid0.coords t)).val * 1 + 1 * 0 = _; omega
  | ⟨1, _⟩ =>
    show cc0_transform_4 (grid0.coords t) 1 * 32768 + 1 * n.val = n.val
    rw [e]; show 0 * 32768 + 1 * n.val = _; omega
  | ⟨2, _⟩ =>
    show cc0_transform_4 (grid0.coords t) 2 * 256 + 1 * d.val = 256 * (kvOf (grid0.coords t)).val + d.val
    rw [e]; show (kvOf (grid0.coords t)).val * 256 + 1 * d.val = _; omega

/-- The values' block. -/
theorem block5 (n : Fin 32768) (d : Fin 256) : (iblk m c 5 t : Vec Ideal S1x32768x256 .fp8e4m3) (ix3 0 n d)
    = m ((c : Thread nD τ).loc main_arg4) (ix3 (batchOf (grid0.coords t)) n (keyCol (grid0.coords t) d)) := by
  have e : cc0_transform_5 (grid0.coords t) = _ := transform4 (grid0.coords t)
  show V m c main_arg4 (((cfg0.win 5).blk t).view.emb (ix3 0 n d : S1x32768x256.Idx)) = _
  rw [V_main_arg4]
  refine congrArg _ (funext fun a => Fin.ext ?_)
  match a with
  | ⟨0, _⟩ =>
    show cc0_transform_5 (grid0.coords t) 0 * 1 + 1 * 0 = (batchOf (grid0.coords t)).val
    rw [e]; show (batchOf (grid0.coords t)).val * 1 + 1 * 0 = _; omega
  | ⟨1, _⟩ =>
    show cc0_transform_5 (grid0.coords t) 1 * 32768 + 1 * n.val = n.val
    rw [e]; show 0 * 32768 + 1 * n.val = _; omega
  | ⟨2, _⟩ =>
    show cc0_transform_5 (grid0.coords t) 2 * 256 + 1 * d.val = 256 * (kvOf (grid0.coords t)).val + d.val
    rw [e]; show (kvOf (grid0.coords t)).val * 256 + 1 * d.val = _; omega

/-- Where an element of the result's block lies in the result. -/
theorem emb6 (r : Fin 128) (j : Fin 2048) : (((cfg0.win 6).blk t).view.emb (ix3 0 r j : S1x128x2048.Idx) : S2x32768x4096.Idx)
    = ix3 (batchOf (grid0.coords t)) (queryOf (grid0.coords t) r) (wideCol (grid0.coords t) j) := by
  have e : cc0_transform_6 (grid0.coords t) = _ := transform3 (grid0.coords t)
  refine funext fun a => Fin.ext ?_
  match a with
  | ⟨0, _⟩ =>
    show cc0_transform_6 (grid0.coords t) 0 * 1 + 1 * 0 = (batchOf (grid0.coords t)).val
    rw [e]; show (batchOf (grid0.coords t)).val * 1 + 1 * 0 = _; omega
  | ⟨1, _⟩ =>
    show cc0_transform_6 (grid0.coords t) 1 * 128 + 1 * r.val = 128 * (qi (grid0.coords t)).val + r.val
    rw [e]; show (qi (grid0.coords t)).val * 128 + 1 * r.val = _; omega
  | ⟨2, _⟩ =>
    show cc0_transform_6 (grid0.coords t) 2 * 2048 + 1 * j.val = 2048 * (kvOf (grid0.coords t)).val + j.val
    rw [e]; show (kvOf (grid0.coords t)).val * 2048 + 1 * j.val = _; omega

/-- If a block's elements are those of an array at its place, writing the block back writes that part of the array. -/
theorem cut_eq (X : Vec Ideal S1x128x2048 .bf16) (Y : Vec Ideal S2x32768x4096 .bf16)
    (h : ∀ g r d, X (ix3 0 r (col g d)) = Y (ix3 (batchOf (grid0.coords t)) (queryOf (grid0.coords t) r) (wideCol (grid0.coords t) (col g d)))) :
    (cfg0.win 6).cut (grid0.coords t) X = ((cfg0.win 6).blk t).view.read (Elt Ideal) Y := by
  have key : ∀ j : S1x128x2048.Idx, X j = Y (((cfg0.win 6).blk t).view.emb j) := by
    intro j
    have h0 : (j 0).val < 1 := (j 0).isLt
    have h1 : (j 1).val < 128 := (j 1).isLt
    have h2 : (j 2).val < 2048 := (j 2).isLt
    obtain ⟨g, r, d, rfl⟩ : ∃ (g : Fin 8) (r : Fin 128) (d : Fin 256), j = ix3 0 r (col g d) := by
      refine ⟨⟨(j 2).val / 256, by omega⟩, ⟨(j 1).val, h1⟩, ⟨(j 2).val % 256, by omega⟩, funext fun a => Fin.ext ?_⟩
      match a with
      | ⟨0, _⟩ => show (j 0).val = 0; omega
      | ⟨1, _⟩ => rfl
      | ⟨2, _⟩ => show (j 2).val = 256 * ((j 2).val / 256) + (j 2).val % 256; omega
    exact (h g r d).trans (congrArg Y (emb6 t r (col g d))).symm
  exact funext key

/-- The reference's result, of the kernel's arguments. -/
def expected : Vec Ideal S2x32768x4096 .bf16 :=
  Cert.ReferenceIdeal.Value.G6 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- What a point leaves is its block of the reference's result. -/
theorem left_eq (g : Fin 8) (r : Fin 128) (d : Fin 256) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (iblk m c 5 t) (ix3 0 r (col g d))
    = expected m c (ix3 (batchOf (grid0.coords t)) (queryOf (grid0.coords t) r) (wideCol (grid0.coords t) (col g d))) := by
  unfold expected
  exact point_eq c (grid0.coords t) _ _ _ _ _ _ _ _ _ _ _ _ _ _ _ _ _ _ _ _ _ _ _ _ _ _ _ _ _ _ _ _ _ _
    (block0 m c t) (block1 m c t) (block2 m c t) (block3 m c t) (block4 m c t) (block5 m c t) g r d

/-- What a point writes back is its block of the reference's result. -/
theorem flushed_eq : (dats m 0 c).flushed 6 t = ((cfg0.win 6).blk t).view.read (Elt Ideal) (expected m c) :=
  (Cert.KernelIdeal.Value.flushed6_A m c t).trans (cut_eq t _ _ (left_eq m c t))

/-- Every element of the result is in some point's block. -/
theorem covered (y : S2x32768x4096.Idx) : ∃ t : Fin cfg0.N, (cfg0.win 6).flush t = true ∧ y ∈ ((cfg0.win 6).blk t).view.set := by
  have h0 : (y 0).val < 2 := (y 0).isLt
  have h1 : (y 1).val < 32768 := (y 1).isLt
  have h2 : (y 2).val < 4096 := (y 2).isLt
  let i : grid0.Coords := fun a => match a with
    | ⟨0, _⟩ => ⟨(y 0).val, h0⟩
    | ⟨1, _⟩ => ⟨(y 2).val / 2048, by show _ < 2; omega⟩
    | ⟨2, _⟩ => ⟨(y 1).val / 128, by show _ < 256; omega⟩
  obtain ⟨t, ht⟩ := Pipeline.Grid.coords_surjective grid0 i
  refine ⟨t, flush0_6 t, ?_⟩
  have h := ((cfg0.win 6).blk t).view.emb_mem_set (ix3 0 ⟨(y 1).val % 128, by omega⟩ ⟨(y 2).val % 2048, by omega⟩ : S1x128x2048.Idx)
  have e : (((cfg0.win 6).blk t).view.emb (ix3 0 ⟨(y 1).val % 128, by omega⟩ ⟨(y 2).val % 2048, by omega⟩ : S1x128x2048.Idx) : S2x32768x4096.Idx) = y := by
    rw [emb6, ht]
    refine funext fun a => Fin.ext ?_
    match a with
    | ⟨0, _⟩ => rfl
    | ⟨1, _⟩ => show 128 * ((y 1).val / 128) + (y 1).val % 128 = (y 1).val; omega
    | ⟨2, _⟩ => show 2048 * ((y 2).val / 2048) + (y 2).val % 2048 = (y 2).val; omega
  rwa [e] at h

/-- The result array after the run is the reference's result. -/
theorem final_eq : (dats m 0 c).arrAt 6 cfg0.N = expected m c :=
  (dats m 0 c).arrAt_eq_of_cover 6 (expected m c) (fun t _ => flushed_eq m c t) covered

end Blocks

end Cert.KernelIdeal.Slab

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Result
public import Idealize.ShloMosaic.Adequacy
public import Idealize.ShloMosaic.Init

@[expose] public section

noncomputable section

namespace Cert.Proof

open Idealize.ShloMosaic Idealize.SL.Sem Cert.Kernel

/-- The kernel with its one named constant is the kernel as printed: the literal the kernel carries
   is the `f32` rounding of `50 / log 2`, under its name. -/
theorem preserves : Cert.preserves_Kernel_KernelIdeal :=
  IdealRules.named_const.statement Cert.KernelIdeal.κ "softcap_log2e" .f32 0x429044FE#32
    ((50 * (Real.log 2)⁻¹ : ℝ) : EReal) rfl

/-- On the extended reals the kernel and the reference, run from memories that agree on the six
    arguments, end with the same result, and both leave the arguments as they were. -/
theorem algebraic : @Cert.algebraic_KernelIdeal_ReferenceIdeal Cert.KernelIdeal.Gen.facts
    Cert.ReferenceIdeal.Gen.facts :=
  fun m g m' g' _ hag => ⟨fun c => Cert.KernelIdeal.Slab.expected m c,
    (θ_run _ _ _).mono
      (fun _ h c => ⟨(h c).1.trans (Cert.KernelIdeal.Slab.final_eq m c), (h c).2⟩)
      (Cert.KernelIdeal.Value.run_blocks m g),
    (θ_run _ _ _).mono
      (fun _ h c => ⟨(h c).1.trans (by
        obtain ⟨e0, e1, e2, e3, e4, e5⟩ := hag c
        unfold Cert.KernelIdeal.Slab.expected
        rw [e0, e1, e2, e3, e4, e5]), (h c).2⟩)
      (Cert.ReferenceIdeal.Value.run m' g')⟩

/-- The five claims together, with the stated facts of the three programs. -/
theorem claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ, fun m ρ _ => Cert.ReferenceIdeal.Gen.frame m ρ, preserves, algebraic⟩

end Cert.Proof

end
